-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S2x16x16x512 : Shape := ⟨4, ![2, 16, 16, 512]⟩
abbrev S2x16 : Shape := ⟨2, ![2, 16]⟩
abbrev S_ : Shape := ⟨0, ![]⟩
abbrev S16x512 : Shape := ⟨2, ![16, 512]⟩
abbrev S1x1x16x512 : Shape := ⟨4, ![1, 1, 16, 512]⟩
abbrev S1x1 : Shape := ⟨2, ![1, 1]⟩

abbrev nBuf : Space → Nat
  | .hbm => 3
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x512, .f32⟩
  | .local _ .vmem, ⟨0, _⟩ => ⟨S512x256, .f32⟩
  | .local _ .vmem, ⟨1, _⟩ => ⟨S256x512, .f32⟩
  | .local _ .vmem, ⟨2, _⟩ => ⟨S512x512, .f32⟩
  | .local _ .vmem, ⟨3, _⟩ => ⟨S2x16x16x512, .bf16⟩
  | .local _ .vmem, ⟨4, _⟩ => ⟨S2x16x16x512, .bf16⟩
  | .local _ .vmem, ⟨5, _⟩ => ⟨S2x16x16x512, .bf16⟩
  | _, _ => ⟨S512x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_65 : BitVec 32) (c0_i32_69 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v70 : BitVec 32 := Scalar.addi v2 c1_i32_65
  let c16_i32_66 : BitVec 32 := 16#32
  let v71 : BitVec 32 := Scalar.remsi v70 c16_i32_66
  let c32_i32 : BitVec 32 := 32#32
  let v72 : BitVec 32 := Scalar.addi v71 c32_i32
  let c16_i32_67 : BitVec 32 := 16#32
  let v73 : BitVec 32 := Scalar.remsi v72 c16_i32_67
  let c32_i32_68 : BitVec 32 := 32#32
  let v74 : BitVec 32 := Scalar.muli v73 c32_i32_68
  let v75 : BitVec 32 := Scalar.addi v74 c0_i32_69
  let v76 : Index := Scalar.indexCast v75
  let c0_70 : Index := 0#32
  ![v76.toNat, 0]
def k0_off2 (d0 : Dev nD) (c1_i32_215 : BitVec 32) : Fin 2 → Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v265 : BitVec 32 := Scalar.addi v2 c1_i32_215
  let c16_i32_216 : BitVec 32 := 16#32
  let v266 : BitVec 32 := Scalar.remsi v265 c16_i32_216
  ![0, v266.toNat]
def k0_off3 (d0 : Dev nD) : Fin 2 → Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off4 (d0 : Dev nD) : Fin 4 → Nat :=
  let c0_i32_219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_224 : BitVec 32 := 0#32
  let c0_i32_225 : BitVec 32 := 0#32
  ![0, v2.toNat, 0, 0]
def k0_dev16 (d0 : Dev nD) : Nat :=
  let c0_i32_223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_215 : BitVec 32 := 1#32
  let v265 : BitVec 32 := Scalar.addi v2 c1_i32_215
  let c16_i32_216 : BitVec 32 := 16#32
  let v266 : BitVec 32 := Scalar.remsi v265 c16_i32_216
  let c1_i32_222 : BitVec 32 := 1#32
  let v267 : BitVec 32 := Scalar.muli v266 c1_i32_222
  let v268 : BitVec 32 := Scalar.addi c0_i32_223 v267
  v268.toNat
def k0_dev17 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_228 : BitVec 32 := 2#32
  let v277 : BitVec 32 := Scalar.addi v2 c2_i32_228
  let c16_i32_229 : BitVec 32 := 16#32
  let v278 : BitVec 32 := Scalar.remsi v277 c16_i32_229
  let c1_i32_235 : BitVec 32 := 1#32
  let v279 : BitVec 32 := Scalar.muli v278 c1_i32_235
  let v280 : BitVec 32 := Scalar.addi c0_i32_236 v279
  v280.toNat
def k0_dev18 (d0 : Dev nD) : Nat :=
  let c0_i32_249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_241 : BitVec 32 := 3#32
  let v289 : BitVec 32 := Scalar.addi v2 c3_i32_241
  let c16_i32_242 : BitVec 32 := 16#32
  let v290 : BitVec 32 := Scalar.remsi v289 c16_i32_242
  let c1_i32_248 : BitVec 32 := 1#32
  let v291 : BitVec 32 := Scalar.muli v290 c1_i32_248
  let v292 : BitVec 32 := Scalar.addi c0_i32_249 v291
  v292.toNat
def k0_dev19 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_254 : BitVec 32 := 4#32
  let v301 : BitVec 32 := Scalar.addi v2 c4_i32_254
  let c16_i32_255 : BitVec 32 := 16#32
  let v302 : BitVec 32 := Scalar.remsi v301 c16_i32_255
  let c1_i32_261 : BitVec 32 := 1#32
  let v303 : BitVec 32 := Scalar.muli v302 c1_i32_261
  let v304 : BitVec 32 := Scalar.addi c0_i32_262 v303
  v304.toNat
def k0_dev20 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_267 : BitVec 32 := 5#32
  let v313 : BitVec 32 := Scalar.addi v2 c5_i32_267
  let c16_i32_268 : BitVec 32 := 16#32
  let v314 : BitVec 32 := Scalar.remsi v313 c16_i32_268
  let c1_i32_274 : BitVec 32 := 1#32
  let v315 : BitVec 32 := Scalar.muli v314 c1_i32_274
  let v316 : BitVec 32 := Scalar.addi c0_i32_275 v315
  v316.toNat
def k0_dev21 (d0 : Dev nD) : Nat :=
  let c0_i32_288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_280 : BitVec 32 := 6#32
  let v325 : BitVec 32 := Scalar.addi v2 c6_i32_280
  let c16_i32_281 : BitVec 32 := 16#32
  let v326 : BitVec 32 := Scalar.remsi v325 c16_i32_281
  let c1_i32_287 : BitVec 32 := 1#32
  let v327 : BitVec 32 := Scalar.muli v326 c1_i32_287
  let v328 : BitVec 32 := Scalar.addi c0_i32_288 v327
  v328.toNat
def k0_dev22 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_293 : BitVec 32 := 7#32
  let v337 : BitVec 32 := Scalar.addi v2 c7_i32_293
  let c16_i32_294 : BitVec 32 := 16#32
  let v338 : BitVec 32 := Scalar.remsi v337 c16_i32_294
  let c1_i32_300 : BitVec 32 := 1#32
  let v339 : BitVec 32 := Scalar.muli v338 c1_i32_300
  let v340 : BitVec 32 := Scalar.addi c0_i32_301 v339
  v340.toNat
def k0_dev23 (d0 : Dev nD) : Nat :=
  let c0_i32_314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_306 : BitVec 32 := 8#32
  let v349 : BitVec 32 := Scalar.addi v2 c8_i32_306
  let c16_i32_307 : BitVec 32 := 16#32
  let v350 : BitVec 32 := Scalar.remsi v349 c16_i32_307
  let c1_i32_313 : BitVec 32 := 1#32
  let v351 : BitVec 32 := Scalar.muli v350 c1_i32_313
  let v352 : BitVec 32 := Scalar.addi c0_i32_314 v351
  v352.toNat
def k0_dev24 (d0 : Dev nD) : Nat :=
  let c0_i32_327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_319 : BitVec 32 := 9#32
  let v361 : BitVec 32 := Scalar.addi v2 c9_i32_319
  let c16_i32_320 : BitVec 32 := 16#32
  let v362 : BitVec 32 := Scalar.remsi v361 c16_i32_320
  let c1_i32_326 : BitVec 32 := 1#32
  let v363 : BitVec 32 := Scalar.muli v362 c1_i32_326
  let v364 : BitVec 32 := Scalar.addi c0_i32_327 v363
  v364.toNat
def k0_dev25 (d0 : Dev nD) : Nat :=
  let c0_i32_340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_332 : BitVec 32 := 10#32
  let v373 : BitVec 32 := Scalar.addi v2 c10_i32_332
  let c16_i32_333 : BitVec 32 := 16#32
  let v374 : BitVec 32 := Scalar.remsi v373 c16_i32_333
  let c1_i32_339 : BitVec 32 := 1#32
  let v375 : BitVec 32 := Scalar.muli v374 c1_i32_339
  let v376 : BitVec 32 := Scalar.addi c0_i32_340 v375
  v376.toNat
def k0_dev26 (d0 : Dev nD) : Nat :=
  let c0_i32_353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_345 : BitVec 32 := 11#32
  let v385 : BitVec 32 := Scalar.addi v2 c11_i32_345
  let c16_i32_346 : BitVec 32 := 16#32
  let v386 : BitVec 32 := Scalar.remsi v385 c16_i32_346
  let c1_i32_352 : BitVec 32 := 1#32
  let v387 : BitVec 32 := Scalar.muli v386 c1_i32_352
  let v388 : BitVec 32 := Scalar.addi c0_i32_353 v387
  v388.toNat
def k0_dev27 (d0 : Dev nD) : Nat :=
  let c0_i32_366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_358 : BitVec 32 := 12#32
  let v397 : BitVec 32 := Scalar.addi v2 c12_i32_358
  let c16_i32_359 : BitVec 32 := 16#32
  let v398 : BitVec 32 := Scalar.remsi v397 c16_i32_359
  let c1_i32_365 : BitVec 32 := 1#32
  let v399 : BitVec 32 := Scalar.muli v398 c1_i32_365
  let v400 : BitVec 32 := Scalar.addi c0_i32_366 v399
  v400.toNat
def k0_dev28 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_371 : BitVec 32 := 13#32
  let v409 : BitVec 32 := Scalar.addi v2 c13_i32_371
  let c16_i32_372 : BitVec 32 := 16#32
  let v410 : BitVec 32 := Scalar.remsi v409 c16_i32_372
  let c1_i32_378 : BitVec 32 := 1#32
  let v411 : BitVec 32 := Scalar.muli v410 c1_i32_378
  let v412 : BitVec 32 := Scalar.addi c0_i32_379 v411
  v412.toNat
def k0_dev29 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_384 : BitVec 32 := 14#32
  let v421 : BitVec 32 := Scalar.addi v2 c14_i32_384
  let c16_i32_385 : BitVec 32 := 16#32
  let v422 : BitVec 32 := Scalar.remsi v421 c16_i32_385
  let c1_i32_391 : BitVec 32 := 1#32
  let v423 : BitVec 32 := Scalar.muli v422 c1_i32_391
  let v424 : BitVec 32 := Scalar.addi c0_i32_392 v423
  v424.toNat
def k0_dev30 (d0 : Dev nD) : Nat :=
  let c0_i32_405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_397 : BitVec 32 := 15#32
  let v433 : BitVec 32 := Scalar.addi v2 c15_i32_397
  let c16_i32_398 : BitVec 32 := 16#32
  let v434 : BitVec 32 := Scalar.remsi v433 c16_i32_398
  let c1_i32_404 : BitVec 32 := 1#32
  let v435 : BitVec 32 := Scalar.muli v434 c1_i32_404
  let v436 : BitVec 32 := Scalar.addi c0_i32_405 v435
  v436.toNat
def k0_off5 (d0 : Dev nD) (c1_i32_575 : BitVec 32) : Fin 2 → Nat :=
  let c1_i32_581 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v640 : BitVec 32 := Scalar.addi v2 c1_i32_575
  let c16_i32_576 : BitVec 32 := 16#32
  let v641 : BitVec 32 := Scalar.remsi v640 c16_i32_576
  ![1, v641.toNat]
def k0_off6 (d0 : Dev nD) : Fin 2 → Nat :=
  let c1_i32_580 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off7 (d0 : Dev nD) : Fin 4 → Nat :=
  let c1_i32_579 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_584 : BitVec 32 := 0#32
  let c0_i32_585 : BitVec 32 := 0#32
  ![1, v2.toNat, 0, 0]
def k0_dev31 (d0 : Dev nD) : Nat :=
  let c0_i32_583 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_575 : BitVec 32 := 1#32
  let v640 : BitVec 32 := Scalar.addi v2 c1_i32_575
  let c16_i32_576 : BitVec 32 := 16#32
  let v641 : BitVec 32 := Scalar.remsi v640 c16_i32_576
  let c1_i32_582 : BitVec 32 := 1#32
  let v642 : BitVec 32 := Scalar.muli v641 c1_i32_582
  let v643 : BitVec 32 := Scalar.addi c0_i32_583 v642
  v643.toNat
def k0_dev32 (d0 : Dev nD) : Nat :=
  let c0_i32_596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_588 : BitVec 32 := 2#32
  let v652 : BitVec 32 := Scalar.addi v2 c2_i32_588
  let c16_i32_589 : BitVec 32 := 16#32
  let v653 : BitVec 32 := Scalar.remsi v652 c16_i32_589
  let c1_i32_595 : BitVec 32 := 1#32
  let v654 : BitVec 32 := Scalar.muli v653 c1_i32_595
  let v655 : BitVec 32 := Scalar.addi c0_i32_596 v654
  v655.toNat
def k0_dev33 (d0 : Dev nD) : Nat :=
  let c0_i32_609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_601 : BitVec 32 := 3#32
  let v664 : BitVec 32 := Scalar.addi v2 c3_i32_601
  let c16_i32_602 : BitVec 32 := 16#32
  let v665 : BitVec 32 := Scalar.remsi v664 c16_i32_602
  let c1_i32_608 : BitVec 32 := 1#32
  let v666 : BitVec 32 := Scalar.muli v665 c1_i32_608
  let v667 : BitVec 32 := Scalar.addi c0_i32_609 v666
  v667.toNat
def k0_dev34 (d0 : Dev nD) : Nat :=
  let c0_i32_622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_614 : BitVec 32 := 4#32
  let v676 : BitVec 32 := Scalar.addi v2 c4_i32_614
  let c16_i32_615 : BitVec 32 := 16#32
  let v677 : BitVec 32 := Scalar.remsi v676 c16_i32_615
  let c1_i32_621 : BitVec 32 := 1#32
  let v678 : BitVec 32 := Scalar.muli v677 c1_i32_621
  let v679 : BitVec 32 := Scalar.addi c0_i32_622 v678
  v679.toNat
def k0_dev35 (d0 : Dev nD) : Nat :=
  let c0_i32_635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_627 : BitVec 32 := 5#32
  let v688 : BitVec 32 := Scalar.addi v2 c5_i32_627
  let c16_i32_628 : BitVec 32 := 16#32
  let v689 : BitVec 32 := Scalar.remsi v688 c16_i32_628
  let c1_i32_634 : BitVec 32 := 1#32
  let v690 : BitVec 32 := Scalar.muli v689 c1_i32_634
  let v691 : BitVec 32 := Scalar.addi c0_i32_635 v690
  v691.toNat
def k0_dev36 (d0 : Dev nD) : Nat :=
  let c0_i32_648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_640 : BitVec 32 := 6#32
  let v700 : BitVec 32 := Scalar.addi v2 c6_i32_640
  let c16_i32_641 : BitVec 32 := 16#32
  let v701 : BitVec 32 := Scalar.remsi v700 c16_i32_641
  let c1_i32_647 : BitVec 32 := 1#32
  let v702 : BitVec 32 := Scalar.muli v701 c1_i32_647
  let v703 : BitVec 32 := Scalar.addi c0_i32_648 v702
  v703.toNat
def k0_dev37 (d0 : Dev nD) : Nat :=
  let c0_i32_661 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_653 : BitVec 32 := 7#32
  let v712 : BitVec 32 := Scalar.addi v2 c7_i32_653
  let c16_i32_654 : BitVec 32 := 16#32
  let v713 : BitVec 32 := Scalar.remsi v712 c16_i32_654
  let c1_i32_660 : BitVec 32 := 1#32
  let v714 : BitVec 32 := Scalar.muli v713 c1_i32_660
  let v715 : BitVec 32 := Scalar.addi c0_i32_661 v714
  v715.toNat
def k0_dev38 (d0 : Dev nD) : Nat :=
  let c0_i32_674 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_666 : BitVec 32 := 8#32
  let v724 : BitVec 32 := Scalar.addi v2 c8_i32_666
  let c16_i32_667 : BitVec 32 := 16#32
  let v725 : BitVec 32 := Scalar.remsi v724 c16_i32_667
  let c1_i32_673 : BitVec 32 := 1#32
  let v726 : BitVec 32 := Scalar.muli v725 c1_i32_673
  let v727 : BitVec 32 := Scalar.addi c0_i32_674 v726
  v727.toNat
def k0_dev39 (d0 : Dev nD) : Nat :=
  let c0_i32_687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_679 : BitVec 32 := 9#32
  let v736 : BitVec 32 := Scalar.addi v2 c9_i32_679
  let c16_i32_680 : BitVec 32 := 16#32
  let v737 : BitVec 32 := Scalar.remsi v736 c16_i32_680
  let c1_i32_686 : BitVec 32 := 1#32
  let v738 : BitVec 32 := Scalar.muli v737 c1_i32_686
  let v739 : BitVec 32 := Scalar.addi c0_i32_687 v738
  v739.toNat
def k0_dev40 (d0 : Dev nD) : Nat :=
  let c0_i32_700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_692 : BitVec 32 := 10#32
  let v748 : BitVec 32 := Scalar.addi v2 c10_i32_692
  let c16_i32_693 : BitVec 32 := 16#32
  let v749 : BitVec 32 := Scalar.remsi v748 c16_i32_693
  let c1_i32_699 : BitVec 32 := 1#32
  let v750 : BitVec 32 := Scalar.muli v749 c1_i32_699
  let v751 : BitVec 32 := Scalar.addi c0_i32_700 v750
  v751.toNat
def k0_dev41 (d0 : Dev nD) : Nat :=
  let c0_i32_713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_705 : BitVec 32 := 11#32
  let v760 : BitVec 32 := Scalar.addi v2 c11_i32_705
  let c16_i32_706 : BitVec 32 := 16#32
  let v761 : BitVec 32 := Scalar.remsi v760 c16_i32_706
  let c1_i32_712 : BitVec 32 := 1#32
  let v762 : BitVec 32 := Scalar.muli v761 c1_i32_712
  let v763 : BitVec 32 := Scalar.addi c0_i32_713 v762
  v763.toNat
def k0_dev42 (d0 : Dev nD) : Nat :=
  let c0_i32_726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_718 : BitVec 32 := 12#32
  let v772 : BitVec 32 := Scalar.addi v2 c12_i32_718
  let c16_i32_719 : BitVec 32 := 16#32
  let v773 : BitVec 32 := Scalar.remsi v772 c16_i32_719
  let c1_i32_725 : BitVec 32 := 1#32
  let v774 : BitVec 32 := Scalar.muli v773 c1_i32_725
  let v775 : BitVec 32 := Scalar.addi c0_i32_726 v774
  v775.toNat
def k0_dev43 (d0 : Dev nD) : Nat :=
  let c0_i32_739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_731 : BitVec 32 := 13#32
  let v784 : BitVec 32 := Scalar.addi v2 c13_i32_731
  let c16_i32_732 : BitVec 32 := 16#32
  let v785 : BitVec 32 := Scalar.remsi v784 c16_i32_732
  let c1_i32_738 : BitVec 32 := 1#32
  let v786 : BitVec 32 := Scalar.muli v785 c1_i32_738
  let v787 : BitVec 32 := Scalar.addi c0_i32_739 v786
  v787.toNat
def k0_dev44 (d0 : Dev nD) : Nat :=
  let c0_i32_752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_744 : BitVec 32 := 14#32
  let v796 : BitVec 32 := Scalar.addi v2 c14_i32_744
  let c16_i32_745 : BitVec 32 := 16#32
  let v797 : BitVec 32 := Scalar.remsi v796 c16_i32_745
  let c1_i32_751 : BitVec 32 := 1#32
  let v798 : BitVec 32 := Scalar.muli v797 c1_i32_751
  let v799 : BitVec 32 := Scalar.addi c0_i32_752 v798
  v799.toNat
def k0_dev45 (d0 : Dev nD) : Nat :=
  let c0_i32_765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_757 : BitVec 32 := 15#32
  let v808 : BitVec 32 := Scalar.addi v2 c15_i32_757
  let c16_i32_758 : BitVec 32 := 16#32
  let v809 : BitVec 32 := Scalar.remsi v808 c16_i32_758
  let c1_i32_764 : BitVec 32 := 1#32
  let v810 : BitVec 32 := Scalar.muli v809 c1_i32_764
  let v811 : BitVec 32 := Scalar.addi c0_i32_765 v810
  v811.toNat
def k0_off8 (d0 : Dev nD) (c0_i32_773 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_770 : BitVec 32 := 32#32
  let v820 : BitVec 32 := Scalar.addi v2 c32_i32_770
  let c16_i32_771 : BitVec 32 := 16#32
  let v821 : BitVec 32 := Scalar.remsi v820 c16_i32_771
  let c32_i32_772 : BitVec 32 := 32#32
  let v822 : BitVec 32 := Scalar.muli v821 c32_i32_772
  let v823 : BitVec 32 := Scalar.addi v822 c0_i32_773
  let v824 : Index := Scalar.indexCast v823
  let c0_774 : Index := 0#32
  ![v824.toNat, 0]
def k0_off9 (d0 : Dev nD) (c1_i32_775 : BitVec 32) : Fin 4 → Nat :=
  let c0_i32_778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v827 : BitVec 32 := Scalar.addi v2 c1_i32_775
  let c16_i32_776 : BitVec 32 := 16#32
  let v828 : BitVec 32 := Scalar.remsi v827 c16_i32_776
  let c0_i32_783 : BitVec 32 := 0#32
  let c0_i32_784 : BitVec 32 := 0#32
  ![0, v828.toNat, 0, 0]
def k0_off10 (d0 : Dev nD) (c1_i32_775 : BitVec 32) : Fin 4 → Nat :=
  let c0_787 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v827 : BitVec 32 := Scalar.addi v2 c1_i32_775
  let c16_i32_776 : BitVec 32 := 16#32
  let v828 : BitVec 32 := Scalar.remsi v827 c16_i32_776
  let v837 : Index := Scalar.indexCast v828
  let c0_788 : Index := 0#32
  let c0_789 : Index := 0#32
  ![0, v837.toNat, 0, 0]
def k0_dev46 (d0 : Dev nD) : Nat :=
  let c0_i32_1019 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1011 : BitVec 32 := 1#32
  let v1068 : BitVec 32 := Scalar.addi v2 c1_i32_1011
  let c16_i32_1012 : BitVec 32 := 16#32
  let v1069 : BitVec 32 := Scalar.remsi v1068 c16_i32_1012
  let c1_i32_1018 : BitVec 32 := 1#32
  let v1070 : BitVec 32 := Scalar.muli v1069 c1_i32_1018
  let v1071 : BitVec 32 := Scalar.addi c0_i32_1019 v1070
  v1071.toNat
def k0_dev47 (d0 : Dev nD) : Nat :=
  let c0_i32_1032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1024 : BitVec 32 := 2#32
  let v1080 : BitVec 32 := Scalar.addi v2 c2_i32_1024
  let c16_i32_1025 : BitVec 32 := 16#32
  let v1081 : BitVec 32 := Scalar.remsi v1080 c16_i32_1025
  let c1_i32_1031 : BitVec 32 := 1#32
  let v1082 : BitVec 32 := Scalar.muli v1081 c1_i32_1031
  let v1083 : BitVec 32 := Scalar.addi c0_i32_1032 v1082
  v1083.toNat
def k0_dev48 (d0 : Dev nD) : Nat :=
  let c0_i32_1045 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1037 : BitVec 32 := 3#32
  let v1092 : BitVec 32 := Scalar.addi v2 c3_i32_1037
  let c16_i32_1038 : BitVec 32 := 16#32
  let v1093 : BitVec 32 := Scalar.remsi v1092 c16_i32_1038
  let c1_i32_1044 : BitVec 32 := 1#32
  let v1094 : BitVec 32 := Scalar.muli v1093 c1_i32_1044
  let v1095 : BitVec 32 := Scalar.addi c0_i32_1045 v1094
  v1095.toNat
def k0_dev49 (d0 : Dev nD) : Nat :=
  let c0_i32_1058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1050 : BitVec 32 := 4#32
  let v1104 : BitVec 32 := Scalar.addi v2 c4_i32_1050
  let c16_i32_1051 : BitVec 32 := 16#32
  let v1105 : BitVec 32 := Scalar.remsi v1104 c16_i32_1051
  let c1_i32_1057 : BitVec 32 := 1#32
  let v1106 : BitVec 32 := Scalar.muli v1105 c1_i32_1057
  let v1107 : BitVec 32 := Scalar.addi c0_i32_1058 v1106
  v1107.toNat
def k0_dev50 (d0 : Dev nD) : Nat :=
  let c0_i32_1071 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1063 : BitVec 32 := 5#32
  let v1116 : BitVec 32 := Scalar.addi v2 c5_i32_1063
  let c16_i32_1064 : BitVec 32 := 16#32
  let v1117 : BitVec 32 := Scalar.remsi v1116 c16_i32_1064
  let c1_i32_1070 : BitVec 32 := 1#32
  let v1118 : BitVec 32 := Scalar.muli v1117 c1_i32_1070
  let v1119 : BitVec 32 := Scalar.addi c0_i32_1071 v1118
  v1119.toNat
def k0_dev51 (d0 : Dev nD) : Nat :=
  let c0_i32_1084 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1076 : BitVec 32 := 6#32
  let v1128 : BitVec 32 := Scalar.addi v2 c6_i32_1076
  let c16_i32_1077 : BitVec 32 := 16#32
  let v1129 : BitVec 32 := Scalar.remsi v1128 c16_i32_1077
  let c1_i32_1083 : BitVec 32 := 1#32
  let v1130 : BitVec 32 := Scalar.muli v1129 c1_i32_1083
  let v1131 : BitVec 32 := Scalar.addi c0_i32_1084 v1130
  v1131.toNat
def k0_dev52 (d0 : Dev nD) : Nat :=
  let c0_i32_1097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1089 : BitVec 32 := 7#32
  let v1140 : BitVec 32 := Scalar.addi v2 c7_i32_1089
  let c16_i32_1090 : BitVec 32 := 16#32
  let v1141 : BitVec 32 := Scalar.remsi v1140 c16_i32_1090
  let c1_i32_1096 : BitVec 32 := 1#32
  let v1142 : BitVec 32 := Scalar.muli v1141 c1_i32_1096
  let v1143 : BitVec 32 := Scalar.addi c0_i32_1097 v1142
  v1143.toNat
def k0_dev53 (d0 : Dev nD) : Nat :=
  let c0_i32_1110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1102 : BitVec 32 := 8#32
  let v1152 : BitVec 32 := Scalar.addi v2 c8_i32_1102
  let c16_i32_1103 : BitVec 32 := 16#32
  let v1153 : BitVec 32 := Scalar.remsi v1152 c16_i32_1103
  let c1_i32_1109 : BitVec 32 := 1#32
  let v1154 : BitVec 32 := Scalar.muli v1153 c1_i32_1109
  let v1155 : BitVec 32 := Scalar.addi c0_i32_1110 v1154
  v1155.toNat
def k0_dev54 (d0 : Dev nD) : Nat :=
  let c0_i32_1123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1115 : BitVec 32 := 9#32
  let v1164 : BitVec 32 := Scalar.addi v2 c9_i32_1115
  let c16_i32_1116 : BitVec 32 := 16#32
  let v1165 : BitVec 32 := Scalar.remsi v1164 c16_i32_1116
  let c1_i32_1122 : BitVec 32 := 1#32
  let v1166 : BitVec 32 := Scalar.muli v1165 c1_i32_1122
  let v1167 : BitVec 32 := Scalar.addi c0_i32_1123 v1166
  v1167.toNat
def k0_dev55 (d0 : Dev nD) : Nat :=
  let c0_i32_1136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1128 : BitVec 32 := 10#32
  let v1176 : BitVec 32 := Scalar.addi v2 c10_i32_1128
  let c16_i32_1129 : BitVec 32 := 16#32
  let v1177 : BitVec 32 := Scalar.remsi v1176 c16_i32_1129
  let c1_i32_1135 : BitVec 32 := 1#32
  let v1178 : BitVec 32 := Scalar.muli v1177 c1_i32_1135
  let v1179 : BitVec 32 := Scalar.addi c0_i32_1136 v1178
  v1179.toNat
def k0_dev56 (d0 : Dev nD) : Nat :=
  let c0_i32_1149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1141 : BitVec 32 := 11#32
  let v1188 : BitVec 32 := Scalar.addi v2 c11_i32_1141
  let c16_i32_1142 : BitVec 32 := 16#32
  let v1189 : BitVec 32 := Scalar.remsi v1188 c16_i32_1142
  let c1_i32_1148 : BitVec 32 := 1#32
  let v1190 : BitVec 32 := Scalar.muli v1189 c1_i32_1148
  let v1191 : BitVec 32 := Scalar.addi c0_i32_1149 v1190
  v1191.toNat
def k0_dev57 (d0 : Dev nD) : Nat :=
  let c0_i32_1162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1154 : BitVec 32 := 12#32
  let v1200 : BitVec 32 := Scalar.addi v2 c12_i32_1154
  let c16_i32_1155 : BitVec 32 := 16#32
  let v1201 : BitVec 32 := Scalar.remsi v1200 c16_i32_1155
  let c1_i32_1161 : BitVec 32 := 1#32
  let v1202 : BitVec 32 := Scalar.muli v1201 c1_i32_1161
  let v1203 : BitVec 32 := Scalar.addi c0_i32_1162 v1202
  v1203.toNat
def k0_dev58 (d0 : Dev nD) : Nat :=
  let c0_i32_1175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1167 : BitVec 32 := 13#32
  let v1212 : BitVec 32 := Scalar.addi v2 c13_i32_1167
  let c16_i32_1168 : BitVec 32 := 16#32
  let v1213 : BitVec 32 := Scalar.remsi v1212 c16_i32_1168
  let c1_i32_1174 : BitVec 32 := 1#32
  let v1214 : BitVec 32 := Scalar.muli v1213 c1_i32_1174
  let v1215 : BitVec 32 := Scalar.addi c0_i32_1175 v1214
  v1215.toNat
def k0_dev59 (d0 : Dev nD) : Nat :=
  let c0_i32_1188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1180 : BitVec 32 := 14#32
  let v1224 : BitVec 32 := Scalar.addi v2 c14_i32_1180
  let c16_i32_1181 : BitVec 32 := 16#32
  let v1225 : BitVec 32 := Scalar.remsi v1224 c16_i32_1181
  let c1_i32_1187 : BitVec 32 := 1#32
  let v1226 : BitVec 32 := Scalar.muli v1225 c1_i32_1187
  let v1227 : BitVec 32 := Scalar.addi c0_i32_1188 v1226
  v1227.toNat
def k0_dev60 (d0 : Dev nD) : Nat :=
  let c0_i32_1201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1193 : BitVec 32 := 15#32
  let v1236 : BitVec 32 := Scalar.addi v2 c15_i32_1193
  let c16_i32_1194 : BitVec 32 := 16#32
  let v1237 : BitVec 32 := Scalar.remsi v1236 c16_i32_1194
  let c1_i32_1200 : BitVec 32 := 1#32
  let v1238 : BitVec 32 := Scalar.muli v1237 c1_i32_1200
  let v1239 : BitVec 32 := Scalar.addi c0_i32_1201 v1238
  v1239.toNat
def k0_off11 (d0 : Dev nD) (c1_i32_1211 : BitVec 32) : Fin 4 → Nat :=
  let c1_i32_1214 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1255 : BitVec 32 := Scalar.addi v2 c1_i32_1211
  let c16_i32_1212 : BitVec 32 := 16#32
  let v1256 : BitVec 32 := Scalar.remsi v1255 c16_i32_1212
  let c0_i32_1219 : BitVec 32 := 0#32
  let c0_i32_1220 : BitVec 32 := 0#32
  ![1, v1256.toNat, 0, 0]
def k0_off12 (d0 : Dev nD) (c1_i32_1211 : BitVec 32) : Fin 4 → Nat :=
  let c1_1223 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1255 : BitVec 32 := Scalar.addi v2 c1_i32_1211
  let c16_i32_1212 : BitVec 32 := 16#32
  let v1256 : BitVec 32 := Scalar.remsi v1255 c16_i32_1212
  let v1265 : Index := Scalar.indexCast v1256
  let c0_1224 : Index := 0#32
  let c0_1225 : Index := 0#32
  ![1, v1265.toNat, 0, 0]
def k0_dev61 (d0 : Dev nD) : Nat :=
  let c0_i32_1455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1447 : BitVec 32 := 1#32
  let v1496 : BitVec 32 := Scalar.addi v2 c1_i32_1447
  let c16_i32_1448 : BitVec 32 := 16#32
  let v1497 : BitVec 32 := Scalar.remsi v1496 c16_i32_1448
  let c1_i32_1454 : BitVec 32 := 1#32
  let v1498 : BitVec 32 := Scalar.muli v1497 c1_i32_1454
  let v1499 : BitVec 32 := Scalar.addi c0_i32_1455 v1498
  v1499.toNat
def k0_dev62 (d0 : Dev nD) : Nat :=
  let c0_i32_1468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1460 : BitVec 32 := 2#32
  let v1508 : BitVec 32 := Scalar.addi v2 c2_i32_1460
  let c16_i32_1461 : BitVec 32 := 16#32
  let v1509 : BitVec 32 := Scalar.remsi v1508 c16_i32_1461
  let c1_i32_1467 : BitVec 32 := 1#32
  let v1510 : BitVec 32 := Scalar.muli v1509 c1_i32_1467
  let v1511 : BitVec 32 := Scalar.addi c0_i32_1468 v1510
  v1511.toNat
def k0_dev63 (d0 : Dev nD) : Nat :=
  let c0_i32_1481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1473 : BitVec 32 := 3#32
  let v1520 : BitVec 32 := Scalar.addi v2 c3_i32_1473
  let c16_i32_1474 : BitVec 32 := 16#32
  let v1521 : BitVec 32 := Scalar.remsi v1520 c16_i32_1474
  let c1_i32_1480 : BitVec 32 := 1#32
  let v1522 : BitVec 32 := Scalar.muli v1521 c1_i32_1480
  let v1523 : BitVec 32 := Scalar.addi c0_i32_1481 v1522
  v1523.toNat
def k0_dev64 (d0 : Dev nD) : Nat :=
  let c0_i32_1494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1486 : BitVec 32 := 4#32
  let v1532 : BitVec 32 := Scalar.addi v2 c4_i32_1486
  let c16_i32_1487 : BitVec 32 := 16#32
  let v1533 : BitVec 32 := Scalar.remsi v1532 c16_i32_1487
  let c1_i32_1493 : BitVec 32 := 1#32
  let v1534 : BitVec 32 := Scalar.muli v1533 c1_i32_1493
  let v1535 : BitVec 32 := Scalar.addi c0_i32_1494 v1534
  v1535.toNat
def k0_dev65 (d0 : Dev nD) : Nat :=
  let c0_i32_1507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1499 : BitVec 32 := 5#32
  let v1544 : BitVec 32 := Scalar.addi v2 c5_i32_1499
  let c16_i32_1500 : BitVec 32 := 16#32
  let v1545 : BitVec 32 := Scalar.remsi v1544 c16_i32_1500
  let c1_i32_1506 : BitVec 32 := 1#32
  let v1546 : BitVec 32 := Scalar.muli v1545 c1_i32_1506
  let v1547 : BitVec 32 := Scalar.addi c0_i32_1507 v1546
  v1547.toNat
def k0_dev66 (d0 : Dev nD) : Nat :=
  let c0_i32_1520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1512 : BitVec 32 := 6#32
  let v1556 : BitVec 32 := Scalar.addi v2 c6_i32_1512
  let c16_i32_1513 : BitVec 32 := 16#32
  let v1557 : BitVec 32 := Scalar.remsi v1556 c16_i32_1513
  let c1_i32_1519 : BitVec 32 := 1#32
  let v1558 : BitVec 32 := Scalar.muli v1557 c1_i32_1519
  let v1559 : BitVec 32 := Scalar.addi c0_i32_1520 v1558
  v1559.toNat
def k0_dev67 (d0 : Dev nD) : Nat :=
  let c0_i32_1533 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1525 : BitVec 32 := 7#32
  let v1568 : BitVec 32 := Scalar.addi v2 c7_i32_1525
  let c16_i32_1526 : BitVec 32 := 16#32
  let v1569 : BitVec 32 := Scalar.remsi v1568 c16_i32_1526
  let c1_i32_1532 : BitVec 32 := 1#32
  let v1570 : BitVec 32 := Scalar.muli v1569 c1_i32_1532
  let v1571 : BitVec 32 := Scalar.addi c0_i32_1533 v1570
  v1571.toNat
def k0_dev68 (d0 : Dev nD) : Nat :=
  let c0_i32_1546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1538 : BitVec 32 := 8#32
  let v1580 : BitVec 32 := Scalar.addi v2 c8_i32_1538
  let c16_i32_1539 : BitVec 32 := 16#32
  let v1581 : BitVec 32 := Scalar.remsi v1580 c16_i32_1539
  let c1_i32_1545 : BitVec 32 := 1#32
  let v1582 : BitVec 32 := Scalar.muli v1581 c1_i32_1545
  let v1583 : BitVec 32 := Scalar.addi c0_i32_1546 v1582
  v1583.toNat
def k0_dev69 (d0 : Dev nD) : Nat :=
  let c0_i32_1559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1551 : BitVec 32 := 9#32
  let v1592 : BitVec 32 := Scalar.addi v2 c9_i32_1551
  let c16_i32_1552 : BitVec 32 := 16#32
  let v1593 : BitVec 32 := Scalar.remsi v1592 c16_i32_1552
  let c1_i32_1558 : BitVec 32 := 1#32
  let v1594 : BitVec 32 := Scalar.muli v1593 c1_i32_1558
  let v1595 : BitVec 32 := Scalar.addi c0_i32_1559 v1594
  v1595.toNat
def k0_dev70 (d0 : Dev nD) : Nat :=
  let c0_i32_1572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1564 : BitVec 32 := 10#32
  let v1604 : BitVec 32 := Scalar.addi v2 c10_i32_1564
  let c16_i32_1565 : BitVec 32 := 16#32
  let v1605 : BitVec 32 := Scalar.remsi v1604 c16_i32_1565
  let c1_i32_1571 : BitVec 32 := 1#32
  let v1606 : BitVec 32 := Scalar.muli v1605 c1_i32_1571
  let v1607 : BitVec 32 := Scalar.addi c0_i32_1572 v1606
  v1607.toNat
def k0_dev71 (d0 : Dev nD) : Nat :=
  let c0_i32_1585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1577 : BitVec 32 := 11#32
  let v1616 : BitVec 32 := Scalar.addi v2 c11_i32_1577
  let c16_i32_1578 : BitVec 32 := 16#32
  let v1617 : BitVec 32 := Scalar.remsi v1616 c16_i32_1578
  let c1_i32_1584 : BitVec 32 := 1#32
  let v1618 : BitVec 32 := Scalar.muli v1617 c1_i32_1584
  let v1619 : BitVec 32 := Scalar.addi c0_i32_1585 v1618
  v1619.toNat
def k0_dev72 (d0 : Dev nD) : Nat :=
  let c0_i32_1598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1590 : BitVec 32 := 12#32
  let v1628 : BitVec 32 := Scalar.addi v2 c12_i32_1590
  let c16_i32_1591 : BitVec 32 := 16#32
  let v1629 : BitVec 32 := Scalar.remsi v1628 c16_i32_1591
  let c1_i32_1597 : BitVec 32 := 1#32
  let v1630 : BitVec 32 := Scalar.muli v1629 c1_i32_1597
  let v1631 : BitVec 32 := Scalar.addi c0_i32_1598 v1630
  v1631.toNat
def k0_dev73 (d0 : Dev nD) : Nat :=
  let c0_i32_1611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1603 : BitVec 32 := 13#32
  let v1640 : BitVec 32 := Scalar.addi v2 c13_i32_1603
  let c16_i32_1604 : BitVec 32 := 16#32
  let v1641 : BitVec 32 := Scalar.remsi v1640 c16_i32_1604
  let c1_i32_1610 : BitVec 32 := 1#32
  let v1642 : BitVec 32 := Scalar.muli v1641 c1_i32_1610
  let v1643 : BitVec 32 := Scalar.addi c0_i32_1611 v1642
  v1643.toNat
def k0_dev74 (d0 : Dev nD) : Nat :=
  let c0_i32_1624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1616 : BitVec 32 := 14#32
  let v1652 : BitVec 32 := Scalar.addi v2 c14_i32_1616
  let c16_i32_1617 : BitVec 32 := 16#32
  let v1653 : BitVec 32 := Scalar.remsi v1652 c16_i32_1617
  let c1_i32_1623 : BitVec 32 := 1#32
  let v1654 : BitVec 32 := Scalar.muli v1653 c1_i32_1623
  let v1655 : BitVec 32 := Scalar.addi c0_i32_1624 v1654
  v1655.toNat
def k0_dev75 (d0 : Dev nD) : Nat :=
  let c0_i32_1637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1629 : BitVec 32 := 15#32
  let v1664 : BitVec 32 := Scalar.addi v2 c15_i32_1629
  let c16_i32_1630 : BitVec 32 := 16#32
  let v1665 : BitVec 32 := Scalar.remsi v1664 c16_i32_1630
  let c1_i32_1636 : BitVec 32 := 1#32
  let v1666 : BitVec 32 := Scalar.muli v1665 c1_i32_1636
  let v1667 : BitVec 32 := Scalar.addi c0_i32_1637 v1666
  v1667.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x4096 : Shape := ⟨2, ![512, 4096]⟩
abbrev S4096x512 : Shape := ⟨2, ![4096, 512]⟩
abbrev S512x512 : Shape := ⟨2, ![512, 512]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S_, .f32⟩
  | .hbm, ⟨6, _⟩ => ⟨S512x512, .f32⟩
  | .hbm, ⟨7, _⟩ => ⟨S512x512, .f32⟩
  | .hbm, ⟨8, _⟩ => ⟨S512x512, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Loops.lean ====
/-
# The kernel's body as loops

The printed body is unrolled: fifteen signals, thirty casts, sixty copies, sixty receive waits and sixty send waits follow
one another. Here the same sequence is written as loops over the peer offset `j : Fin 15` (the peer is `j + 1` devices
ahead) and the wave `w : Fin 2`; `body_eq` says that the printed body IS that program, and `table_eq` that the offsets and
peers which the kernel computes in 32-bit words are the plain ones. Everything later is proved of the loops.
-/
module

public import proofs.«01_k».proof.Proof.Gen.KernelIdeal.Skeleton
public import Idealize.ShloMosaic.Lib.Pipeline.Regions

@[expose] public section

noncomputable section

namespace Cert.KernelIdeal.Loops

open Idealize.ShloMosaic Idealize.SL.Sem Cert.KernelIdeal Cert.KernelIdeal.Gen

variable {F : FTy → Type} [FloatOps F]

/-- The programs of a core of this kernel. -/
abbrev Code (F : FTy → Type) [FloatOps F] : Type 1 := Prog (TpuEff nD τ sig (Elt F) Λ₀ .tc) PUnit

/-- The peer offsets, in the order in which every loop of the kernel visits them: `j` stands for `j + 1` devices ahead. -/
def js : List (Fin 15) := [0, 1, 2, 3, 4, 5, 6, 7, 8, 9, 10, 11, 12, 13, 14]

/-- A slot, a semaphore, a chunk of rows starting at `o` lies in its array. -/
abbrev SlotIn (o : Fin 4 → Nat) : Prop := ∀ a, o a + S1x1x16x512.size a ≤ S2x16x16x512.size a
abbrev CellIn (o : Fin 2 → Nat) : Prop := ∀ a, o a + S1x1.size a ≤ S2x16.size a
abbrev RowsIn (o : Fin 2 → Nat) : Prop := ∀ a, o a + S16x512.size a ≤ S512x512.size a
abbrev slotRect (o : Fin 4 → Nat) (h : SlotIn o) : Rect S2x16x16x512 := Rect.unit (s := S2x16x16x512) o S1x1x16x512.size h
abbrev rowsRect (o : Fin 2 → Nat) (h : RowsIn o) : Rect S512x512 := Rect.unit (s := S512x512) o S16x512.size h
abbrev SlotWords (o : Fin 4 → Nat) (h : SlotIn o) : Prop := (slotRect o h).WholeWords (EltTy.packing .bf16)

/-- One slot of a `[2, 16]` array of 16×512 slots, as the copies address it. -/
abbrev slotM (M : Memref sig .tc .vmem S2x16x16x512 .bf16) (o : Fin 4 → Nat) (h : SlotIn o) : Memref sig .tc .vmem S16x512 .bf16 :=
  (M.slice (slotRect o h) (fun _ => rfl)).squeeze S16x512 squeezes_S1x1x16x512_S16x512

/-- One semaphore of a `[2, 16]` array. -/
abbrev semM (A : DmaSems sig S2x16) (o : Fin 2 → Nat) (h : CellIn o) : DmaSem sig :=
  ((A.slice (Rect.unit (s := S2x16) o S1x1.size h)).squeeze S_ squeezes_S1x1_S_).sem

/-- Where the kernel's accesses lie: peers, chunks of the output's rows, semaphores and slots, per wave and peer offset. -/
structure Table where
  /-- The peer `j + 1` devices ahead. -/
  peer : Fin 15 → Nat
  peer_lt : ∀ j, peer j < nD
  /-- The peer's chunk of the output's rows. -/
  rows : Fin 2 → Fin 15 → Fin 2 → Nat
  rows_in : ∀ w j, RowsIn (rows w j)
  /-- The own chunk. -/
  own : Fin 2 → Fin 2 → Nat
  own_in : ∀ w, RowsIn (own w)
  /-- The semaphore named by the peer, and the one named by the own device. -/
  semP : Fin 2 → Fin 15 → Fin 2 → Nat
  semP_in : ∀ w j, CellIn (semP w j)
  semO : Fin 2 → Fin 2 → Nat
  semO_in : ∀ w, CellIn (semO w)
  /-- The slot named by the own device, and the one named by the peer (as the wait and as the load address it). -/
  slotO : Fin 2 → Fin 4 → Nat
  slotO_in : ∀ w, SlotIn (slotO w)
  slotO_words : ∀ w, SlotWords (slotO w) (slotO_in w)
  slotP : Fin 2 → Fin 15 → Fin 4 → Nat
  slotP_in : ∀ w j, SlotIn (slotP w j)
  slotP_words : ∀ w j, SlotWords (slotP w j) (slotP_in w j)
  slotL : Fin 2 → Fin 15 → Fin 4 → Nat
  slotL_in : ∀ w j, SlotIn (slotL w j)

/-- The slot of the send buffer from which the copy to the peer `j + 1` ahead leaves; slot 0 holds the own result. -/
abbrev sendOff (w : Fin 2) (s : Fin 16) : Fin 4 → Nat := ![w.val, s.val, 0, 0]
theorem sendOff_in : ∀ (w : Fin 2) (s : Fin 16), SlotIn (sendOff w s) := by decide +kernel
theorem sendOff_words : ∀ (w : Fin 2) (s : Fin 16), SlotWords (sendOff w s) (sendOff_in w s) := by decide +kernel
theorem sendOff_packed : ∀ (w : Fin 2) (s : Fin 16), (slotRect (sendOff w s) (sendOff_in w s)).PackedRows (EltTy.packing .bf16) := by
  decide +kernel

/-- A chunk as it is stored into the send buffer: narrowed. -/
def castPay (v : Vec F S16x512 .f32) : FVec F S1x1x16x512 .bf16 :=
  shapeCast S1x1x16x512 (truncf .bf16 (shapeCast S16x512 v shapeCasts_S16x512_S16x512) bitsLt_bf16_f32) shapeCasts_S16x512_S1x1x16x512

/-- A received slot, widened. -/
def wide (v : Vec F S1x1x16x512 .bf16) : FVec F S16x512 .f32 :=
  extf .f32 (shapeCast S16x512 v shapeCasts_S1x1x16x512_S16x512) bitsLt_bf16_f32

/-- The activation: `z / (1 + exp (0 - z))`. -/
def act (z : FVec F S16x512 .f32) : FVec F S16x512 .f32 :=
  divf z (addf (broadcast S16x512 (Scalar.ofBits .f32 0x3F800000#32)) (exp (subf (broadcast S16x512 (Scalar.ofBits .f32 0x00000000#32)) z)))

section Code
variable (T : Table)
  (a0 : Memref sig .tc .vmem S512x256 .f32) (a1 : Memref sig .tc .vmem S256x512 .f32) (a2 : Memref sig .tc .vmem S512x512 .f32)
  (a3 : Memref sig .tc .vmem S2x16x16x512 .bf16) (h3 : a3.IsWhole) (a4 : Memref sig .tc .vmem S2x16x16x512 .bf16) (h4 : a4.IsWhole)
  (a5 : Memref sig .tc .vmem S2x16x16x512 .bf16) (h5 : a5.IsWhole) (a6 a7 a8 a9 : DmaSems sig S2x16)

/-- Load a chunk of the output's rows. -/
def loadRows (o : Fin 2 → Nat) (h : RowsIn o) (k : Vec F S16x512 .f32 → Code F) : Code F :=
  .op (.load a2 (rowsRect o h).toLoadRect (View.loadsAt_vmem h_S16x512)) k

/-- Store a chunk of the output's rows (the old chunk is read first and not used). -/
def storeRows (o : Fin 2 → Nat) (h : RowsIn o) (v : FVec F S16x512 .f32) (k : Code F) : Code F :=
  .op (.load a2 (rowsRect o h).toLoadRect (View.loadsAt_vmem h_S16x512)) fun _ =>
  .op (.store a2 (rowsRect o h) v Finset.univ (View.stores_vmem_bits_univ h_S16x512 rfl) (.inl rfl)) fun _ => k

/-- Load a slot. -/
def loadSlot (M : Memref sig .tc .vmem S2x16x16x512 .bf16) (o : Fin 4 → Nat) (h : SlotIn o) (k : Vec F S1x1x16x512 .bf16 → Code F) : Code F :=
  .op (.load M (slotRect o h).toLoadRect (View.loadsAt_vmem h_S1x1x16x512)) k

/-- Store a slot of the send buffer. -/
def storeSlot (w : Fin 2) (s : Fin 16) (v : FVec F S1x1x16x512 .bf16) (k : Code F) : Code F :=
  .op (.load a3 (slotRect (sendOff w s) (sendOff_in w s)).toLoadRect (View.loadsAt_vmem h_S1x1x16x512)) fun _ =>
  .op (.store a3 (slotRect (sendOff w s) (sendOff_in w s)) v Finset.univ
    (View.stores_vmem h_S1x1x16x512 (h3.storeExact_slice rfl _ (sendOff_packed w s)) (fun _ => rfl)) (.inl rfl)) fun _ => k

/-- Copy slot `s` of the send buffer to the own slot of the peer's buffer `M`. -/
def sendSlot (M : Memref sig .tc .vmem S2x16x16x512 .bf16) (hM : M.IsWhole) (S R : DmaSems sig S2x16) (w : Fin 2) (s : Fin 16) (j : Fin 15) (k : Code F) : Code F :=
  .op (.enqueueDma (slotM a3 (sendOff w s) (sendOff_in w s))
    (.remote (Dev.tc (⟨T.peer j, T.peer_lt j⟩ : Dev nD)) (slotM M (T.slotO w) (T.slotO_in w)) (.dma (semM S (T.semP w j) (T.semP_in w j))))
    (.dma (semM R (T.semO w) (T.semO_in w))) ((h3.wordExact_slice rfl _ (sendOff_words w s)).reshape _ _)
    ((hM.wordExact_slice rfl _ (T.slotO_words w)).reshape _ _) ⟨⟨rfl, Or.inl rfl⟩, trivial⟩) fun _ => k

/-- Wait for the peer's slot of `M` to be written. -/
def waitRecv (M : Memref sig .tc .vmem S2x16x16x512 .bf16) (hM : M.IsWhole) (R : DmaSems sig S2x16) (w : Fin 2) (j : Fin 15) (k : Code F) : Code F :=
  .op (.waitDma2 (semM R (T.semP w j) (T.semP_in w j)) (slotM M (T.slotP w j) (T.slotP_in w j)) (slotM M (T.slotP w j) (T.slotP_in w j))
    ((hM.wordExact_slice rfl _ (T.slotP_words w j)).reshape _ _) ((hM.wordExact_slice rfl _ (T.slotP_words w j)).reshape _ _)) fun _ => k

/-- Wait for an own copy to have been read out. -/
def waitSend (M : Memref sig .tc .vmem S2x16x16x512 .bf16) (hM : M.IsWhole) (S : DmaSems sig S2x16) (w : Fin 2) (s : Fin 16) (j : Fin 15) (k : Code F) : Code F :=
  .op (.waitDma2 (semM S (T.semP w j) (T.semP_in w j)) (slotM M (T.slotO w) (T.slotO_in w)) (slotM a3 (sendOff w s) (sendOff_in w s))
    ((hM.wordExact_slice rfl _ (T.slotO_words w)).reshape _ _) ((h3.wordExact_slice rfl _ (sendOff_words w s)).reshape _ _)) fun _ => k

/-- Tell every peer that the own landing buffers are free. -/
def signals (k : Code F) : Code F :=
  js.foldr (fun j k => .op (.semSignal ((⟨T.peer j, T.peer_lt j⟩ : Dev nD), .tc) (SemArray.scalar (sig.barrier 0 rfl) : Sems sig S_).sem (1#32).toInt) fun _ => k) k

/-- The local product. -/
def product (k : Code F) : Code F :=
  .op (.load a0 (Rect.unit (s := S512x256) ![0, 0] S512x256.size inb_S512x256_S512x256_0_0).toLoadRect (View.loadsAt_vmem h_S512x256)) fun vA =>
  .op (.load a1 (Rect.unit (s := S256x512) ![0, 0] S256x512.size inb_S256x512_S256x512_0_0).toLoadRect (View.loadsAt_vmem h_S256x512)) fun vB =>
  .op (.load a2 (Rect.unit (s := S512x512) ![0, 0] S512x512.size inb_S512x512_S512x512_0_0).toLoadRect (View.loadsAt_vmem h_S512x512)) fun _ =>
  .op (.store a2 (Rect.unit (s := S512x512) ![0, 0] S512x512.size inb_S512x512_S512x512_0_0) (k0_pay1 vA vB) Finset.univ (View.stores_vmem_bits_univ h_S512x512 rfl) (.inl rfl)) fun _ => k

/-- Narrow every peer's chunk of wave `w` into the send buffer. -/
def casts (w : Fin 2) (k : Code F) : Code F :=
  js.foldr (fun j k => loadRows a2 (T.rows w j) (T.rows_in w j) fun v => storeSlot a3 h3 w j.succ (castPay v) k) k

/-- Send them. -/
def scatters (w : Fin 2) (k : Code F) : Code F :=
  js.foldr (fun j k => sendSlot T a3 h3 a4 h4 a6 a7 w j.succ j k) k

/-- Collect the peers' parts of the own chunk and add them up. -/
def reduces (w : Fin 2) (fin : FVec F S16x512 .f32 → Code F) : FVec F S16x512 .f32 → Code F :=
  js.foldr (fun j k acc => waitRecv T a4 h4 a7 w j (loadSlot a4 (T.slotL w j) (T.slotL_in w j) fun v => k (addf acc (wide v)))) fin

/-- Reduce the own chunk, apply the activation, keep the result and send it to every peer. -/
def reduceWave (w : Fin 2) (k : Code F) : Code F :=
  loadRows a2 (T.own w) (T.own_in w) fun v => reduces T a4 h4 a7 w
    (fun acc => storeRows a2 (T.own w) (T.own_in w) (act acc) (storeSlot a3 h3 w 0 (shapeCast S1x1x16x512 (truncf .bf16 (act acc) bitsLt_bf16_f32) shapeCasts_S16x512_S1x1x16x512)
      (js.foldr (fun j k => sendSlot T a3 h3 a5 h5 a8 a9 w 0 j k) k)))
    (shapeCast S16x512 v shapeCasts_S16x512_S16x512)

/-- Collect the peers' results. -/
def gathers (w : Fin 2) (k : Code F) : Code F :=
  js.foldr (fun j k => waitRecv T a5 h5 a9 w j (loadSlot a5 (T.slotL w j) (T.slotL_in w j) fun v => storeRows a2 (T.rows w j) (T.rows_in w j) (wide v) k)) k

/-- Wait for the own copies of the scatter, and of the gather. -/
def drainScatter (w : Fin 2) (k : Code F) : Code F :=
  js.foldr (fun j k => waitSend T a3 h3 a4 h4 a6 w j.succ j k) k
def drainGather (w : Fin 2) (k : Code F) : Code F :=
  js.foldr (fun j k => waitSend T a3 h3 a5 h5 a8 w 0 j k) k

/-- The whole body. -/
def code : Code F :=
  signals T <| product a0 a1 a2 <| casts T a2 a3 h3 0 <|
  .op (.semWait (SemArray.scalar (sig.barrier 0 rfl) : Sems sig S_).sem (15#32).toInt) fun _ =>
  scatters T a3 h3 a4 h4 a6 a7 0 <| casts T a2 a3 h3 1 <| scatters T a3 h3 a4 h4 a6 a7 1 <|
  reduceWave T a2 a3 h3 a4 h4 a5 h5 a7 a8 a9 0 <| reduceWave T a2 a3 h3 a4 h4 a5 h5 a7 a8 a9 1 <|
  gathers T a2 a5 h5 a9 0 <| gathers T a2 a5 h5 a9 1 <|
  drainScatter T a3 h3 a4 h4 a6 0 <| drainScatter T a3 h3 a4 h4 a6 1 <|
  drainGather T a3 h3 a5 h5 a8 0 <| drainGather T a3 h3 a5 h5 a8 1 <| .ret ⟨⟩

end Code

/-! ### The two tables -/

/-- Offset `j + 1` as the word the kernel adds. -/
abbrev word (j : Fin 15) : BitVec 32 := BitVec.ofNat 32 (1 + j.val)

theorem forall_wave {p : Fin 2 → Prop} (h0 : p 0) (h1 : p 1) : ∀ w, p w := Fin.forall_fin_two.mpr ⟨h0, h1⟩

/-- Peer `n` ahead, as the kernel computes it. -/
def peerWord (d : Dev nD) (n : BitVec 32) : Nat :=
  (Scalar.addi 0#32 (Scalar.muli (Scalar.remsi (Scalar.addi (Scalar.remsi (Scalar.divsi (Dev.word d) 1#32) 16#32) n) 16#32) 1#32)).toNat

theorem peerWord_eq : ∀ (d : Dev nD) (j : Fin 15), peerWord d (word j) = (d.val + (j.val + 1)) % 16 := by decide +kernel
theorem peerWord_lt (d : Dev nD) (j : Fin 15) : peerWord d (word j) < nD := by
  rw [peerWord_eq]; exact Nat.mod_lt _ (by decide)

/-- The accesses as the kernel computes them. -/
def printed (d : Dev nD) : Table where
  peer j := peerWord d (word j)
  peer_lt := peerWord_lt d
  rows w j := k0_off1 d (word j) (BitVec.ofNat 32 (16 * w.val))
  rows_in w j := k0_off1_inb d j w
  own w := k0_off8 d (BitVec.ofNat 32 (16 * w.val))
  own_in w := k0_off8_inb d w
  semP w j := (![k0_off2 d (word j), k0_off5 d (word j)] : Fin 2 → Fin 2 → Nat) w
  semP_in := forall_wave (fun j => k0_off2_inb d j) (fun j => k0_off5_inb d j)
  semO w := (![k0_off3 d, k0_off6 d] : Fin 2 → Fin 2 → Nat) w
  semO_in := forall_wave (k0_off3_inb d) (k0_off6_inb d)
  slotO w := (![k0_off4 d, k0_off7 d] : Fin 2 → Fin 4 → Nat) w
  slotO_in := forall_wave (k0_off4_inb d) (k0_off7_inb d)
  slotO_words := forall_wave (k0_off4_wordsbf16 d) (k0_off7_wordsbf16 d)
  slotP w j := (![k0_off9 d (word j), k0_off11 d (word j)] : Fin 2 → Fin 4 → Nat) w
  slotP_in := forall_wave (fun j => k0_off9_inb d j) (fun j => k0_off11_inb d j)
  slotP_words := forall_wave (fun j => k0_off9_wordsbf16 d j) (fun j => k0_off11_wordsbf16 d j)
  slotL w j := (![k0_off10 d (word j), k0_off12 d (word j)] : Fin 2 → Fin 4 → Nat) w
  slotL_in := forall_wave (fun j => k0_off10_inb d j) (fun j => k0_off12_inb d j)

/-- The device `n` ahead. -/
def ahead (d : Dev nD) (n : Nat) : Dev nD := ⟨(d.val + n) % 16, Nat.mod_lt _ (by decide)⟩

/-- The device `j + 1` ahead. -/
abbrev peer (d : Dev nD) (j : Fin 15) : Dev nD := ahead d (j.val + 1)

/-- Device `d`'s chunk of wave `w`: sixteen rows. -/
abbrev rowsOff (w : Fin 2) (d : Dev nD) : Fin 2 → Nat := ![32 * d.val + 16 * w.val, 0]
theorem rowsOff_in : ∀ (w : Fin 2) (d : Dev nD), RowsIn (rowsOff w d) := by decide +kernel
abbrev cellOff (w : Fin 2) (d : Dev nD) : Fin 2 → Nat := ![w.val, d.val]
theorem cellOff_in : ∀ (w : Fin 2) (d : Dev nD), CellIn (cellOff w d) := by decide +kernel

/-- The accesses, plainly. -/
def plain (d : Dev nD) : Table where
  peer j := (peer d j).val
  peer_lt j := (peer d j).isLt
  rows w j := rowsOff w (peer d j)
  rows_in w j := rowsOff_in w (peer d j)
  own w := rowsOff w d
  own_in w := rowsOff_in w d
  semP w j := cellOff w (peer d j)
  semP_in w j := cellOff_in w (peer d j)
  semO w := cellOff w d
  semO_in w := cellOff_in w d
  slotO w := sendOff w d
  slotO_in w := sendOff_in w d
  slotO_words w := sendOff_words w d
  slotP w j := sendOff w (peer d j)
  slotP_in w j := sendOff_in w (peer d j)
  slotP_words w j := sendOff_words w (peer d j)
  slotL w j := sendOff w (peer d j)
  slotL_in w j := sendOff_in w (peer d j)

theorem Table.ext' {S T : Table} (h1 : S.peer = T.peer) (h2 : S.rows = T.rows) (h3 : S.own = T.own) (h4 : S.semP = T.semP)
    (h5 : S.semO = T.semO) (h6 : S.slotO = T.slotO) (h7 : S.slotP = T.slotP) (h8 : S.slotL = T.slotL) : S = T := by
  cases S; cases T; simp only at h1 h2 h3 h4 h5 h6 h7 h8; subst h1 h2 h3 h4 h5 h6 h7 h8; rfl

theorem table_eq (d : Dev nD) : printed d = plain d := by
  revert d
  have e (p q : Dev nD → Table) (h : ∀ d, (p d).peer = (q d).peer ∧ (p d).rows = (q d).rows ∧ (p d).own = (q d).own ∧ (p d).semP = (q d).semP
    ∧ (p d).semO = (q d).semO ∧ (p d).slotO = (q d).slotO ∧ (p d).slotP = (q d).slotP ∧ (p d).slotL = (q d).slotL) : ∀ d, p d = q d := fun d => by
    obtain ⟨h1, h2, h3, h4, h5, h6, h7, h8⟩ := h d
    exact Table.ext' h1 h2 h3 h4 h5 h6 h7 h8
  refine e _ _ fun d => ⟨?_, ?_, ?_, ?_, ?_, ?_, ?_, ?_⟩ <;> revert d
  all_goals decide +kernel

set_option maxRecDepth 65536 in
/-- The printed body is the loops, over the accesses as printed. -/
theorem body_printed (a0 : Memref sig .tc .vmem S512x256 .f32) (h0 : a0.IsWhole) (a1 : Memref sig .tc .vmem S256x512 .f32) (h1 : a1.IsWhole)
    (a2 : Memref sig .tc .vmem S512x512 .f32) (h2 : a2.IsWhole) (a3 : Memref sig .tc .vmem S2x16x16x512 .bf16) (h3 : a3.IsWhole)
    (a4 : Memref sig .tc .vmem S2x16x16x512 .bf16) (h4 : a4.IsWhole) (a5 : Memref sig .tc .vmem S2x16x16x512 .bf16) (h5 : a5.IsWhole)
    (a6 a7 a8 a9 : DmaSems sig S2x16) :
    cc0_body (F := F) a0 h0 a1 h1 a2 h2 a3 h3 a4 h4 a5 h5 a6 a7 a8 a9
      = .op .deviceId fun d => code (printed d) a0 a1 a2 a3 h3 a4 h4 a5 h5 a6 a7 a8 a9 := by
  chain_rfl

/-- The printed body is the loops, over the plain accesses. -/
theorem body_eq (a0 : Memref sig .tc .vmem S512x256 .f32) (h0 : a0.IsWhole) (a1 : Memref sig .tc .vmem S256x512 .f32) (h1 : a1.IsWhole)
    (a2 : Memref sig .tc .vmem S512x512 .f32) (h2 : a2.IsWhole) (a3 : Memref sig .tc .vmem S2x16x16x512 .bf16) (h3 : a3.IsWhole)
    (a4 : Memref sig .tc .vmem S2x16x16x512 .bf16) (h4 : a4.IsWhole) (a5 : Memref sig .tc .vmem S2x16x16x512 .bf16) (h5 : a5.IsWhole)
    (a6 a7 a8 a9 : DmaSems sig S2x16) :
    cc0_body (F := F) a0 h0 a1 h1 a2 h2 a3 h3 a4 h4 a5 h5 a6 a7 a8 a9
      = .op .deviceId fun d => code (plain d) a0 a1 a2 a3 h3 a4 h4 a5 h5 a6 a7 a8 a9 := by
  rw [body_printed]
  exact congrArg _ (funext fun d => by rw [table_eq])

end Cert.KernelIdeal.Loops
-- ==== Proof.Memory.lean ====
/-
# The pieces of memory that the devices pass around

The send buffer and the two landing buffers are `2 × 16` slots of `16 × 512` numbers each, the result is `2 × 16` chunks of
sixteen rows. A device owns each of them separately: `slot` and `chunk` say which piece, at which share, with which contents.
Here: how a whole buffer is cut into pieces and put together again, and what the kernel's loads and stores do to one piece.
-/
module

public import proofs.«01_k».proof.Proof.Loops
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Ring
public import Idealize.ShloMosaic.Lib.Transfers
public import Idealize.ShloMosaic.Lib.Tactic

@[expose] public section

noncomputable section

namespace Cert.KernelIdeal.Pieces

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Loops

variable {F : FTy → Type} [FloatOps F]

/-! ## The resources -/

/-- The protocol's ghost state: rounds over the semaphore cells, a round's duties named by peer offsets. -/
abbrev UB : Type := URounds (GSem nD τ sig) (Fin 15)
abbrev UU : Type := UR sig nD τ × UB

local notation "𝕄" => MT nD τ sig Unit (Elt F) ℕ UU ℕ

abbrev 𝒱₀ : Variants := Variants.none

/-- Device `c` runs `p` to the end and then holds `Q`. -/
abbrev runs (c : Dev nD) (p : Code F) (Q : PUnit → sProp 𝕄) : sProp 𝕄 :=
  wp frame (wpE (defs₀ (F := F)) 𝒱₀ (c : Thread nD τ) none) Set.univ p Q

/-- The send buffer, the landing buffer of the scatter, the landing buffer of the gather, and the result. -/
abbrev sendM : Memref sig .tc .vmem S2x16x16x512 .bf16 := Memref.whole cc0_scratch0
abbrev partM : Memref sig .tc .vmem S2x16x16x512 .bf16 := Memref.whole cc0_scratch1
abbrev doneM : Memref sig .tc .vmem S2x16x16x512 .bf16 := Memref.whole cc0_scratch2
abbrev outM : Memref sig .tc .vmem S512x512 .f32 := Memref.whole cc0_stg2_0

abbrev Slot (F : FTy → Type) : Type := S1x1x16x512.Idx → Elt F .bf16
abbrev Chunk (F : FTy → Type) : Type := S16x512.Idx → Elt F .f32

/-- Slot `(w, s)` of the buffer `M` on device `c`, holding `v`. -/
def slot (M : Memref sig .tc .vmem S2x16x16x512 .bf16) (c : Dev nD) (w : Fin 2) (s : Fin 16) (q : PosShare TreeShare) (v : Slot F) : sProp 𝕄 :=
  owns (c : Thread nD τ) (M.slice (slotRect (sendOff w s) (sendOff_in w s)) (fun _ => rfl)) q v

/-- The slot with whatever it holds. -/
def slotAny (M : Memref sig .tc .vmem S2x16x16x512 .bf16) (c : Dev nD) (w : Fin 2) (s : Fin 16) : sProp 𝕄 :=
  iprop(∃ v, slot M c w s fullShare v)

/-- Device `e`'s chunk of wave `w` of the result buffer on device `c`, holding `v`. -/
def chunk (c : Dev nD) (w : Fin 2) (e : Dev nD) (v : Chunk F) : sProp 𝕄 :=
  owns (c : Thread nD τ) (outM.slice (rowsRect (rowsOff w e) (rowsOff_in w e)) (fun _ => rfl)) fullShare v

instance slot_storable (M : Memref sig .tc .vmem S2x16x16x512 .bf16) (c : Dev nD) (w : Fin 2) (s : Fin 16) (q : PosShare TreeShare) (v : Slot F) :
    BI.Storable (upEmb : UEmb _ 𝕄) (slot (F := F) M c w s q v) := by unfold slot; infer_instance
instance slotAny_storable (M : Memref sig .tc .vmem S2x16x16x512 .bf16) (c : Dev nD) (w : Fin 2) (s : Fin 16) :
    BI.Storable (upEmb : UEmb _ 𝕄) (slotAny (F := F) M c w s) := by unfold slotAny; infer_instance

theorem slot_any (M : Memref sig .tc .vmem S2x16x16x512 .bf16) (c : Dev nD) (w : Fin 2) (s : Fin 16) (v : Slot F) :
    (slot M c w s fullShare v : sProp 𝕄) ⊢ slotAny M c w s := by
  unfold slotAny; iintro H; iexists v; iexact H

/-! ## Cutting and joining -/

abbrev slotR (t : Fin 2 × Fin 16) : Rect S2x16x16x512 := slotRect (sendOff t.1 t.2) (sendOff_in t.1 t.2)
abbrev rowsR (t : Fin 2 × Fin 16) : Rect S512x512 := rowsRect (rowsOff t.1 t.2) (rowsOff_in t.1 t.2)

theorem slotR_disjoint (t t' : Fin 2 × Fin 16) (h : t ≠ t') : Disjoint (slotR t).set (slotR t').set := by
  by_cases h1 : t.1 = t'.1
  · refine Rect.unit_disjoint 1 ?_
    have : t.2 ≠ t'.2 := fun h2 => h (Prod.ext h1 h2)
    have : t.2.val ≠ t'.2.val := fun h2 => this (Fin.ext h2)
    show t.2.val + 1 ≤ t'.2.val ∨ t'.2.val + 1 ≤ t.2.val
    omega
  · refine Rect.unit_disjoint 0 ?_
    have : t.1.val ≠ t'.1.val := fun h2 => h1 (Fin.ext h2)
    show t.1.val + 1 ≤ t'.1.val ∨ t'.1.val + 1 ≤ t.1.val
    omega

theorem slotR_cover : (Finset.univ : Finset (Fin 2 × Fin 16)).biUnion (fun t => (slotR t).set) = Finset.univ := by
  refine Finset.eq_univ_of_forall fun i => Finset.mem_biUnion.mpr ⟨(i 0, i 1), Finset.mem_univ _, Rect.mem_set_unit.mpr fun a => ?_⟩
  have h2 : (i 2).val < 16 := (i 2).isLt
  have h3 : (i 3).val < 512 := (i 3).isLt
  fin_cases a
  · exact ⟨Nat.le_refl _, Nat.lt_succ_self _⟩
  · exact ⟨Nat.le_refl _, Nat.lt_succ_self _⟩
  · exact ⟨Nat.zero_le _, by show (i 2).val < 0 + 16; omega⟩
  · exact ⟨Nat.zero_le _, by show (i 3).val < 0 + 512; omega⟩

theorem rowsR_disjoint (t t' : Fin 2 × Fin 16) (h : t ≠ t') : Disjoint (rowsR t).set (rowsR t').set := by
  refine Rect.unit_disjoint 0 ?_
  show 32 * t.2.val + 16 * t.1.val + 16 ≤ 32 * t'.2.val + 16 * t'.1.val ∨ 32 * t'.2.val + 16 * t'.1.val + 16 ≤ 32 * t.2.val + 16 * t.1.val
  have h1 : t.1.val < 2 := t.1.isLt
  have h2 : t'.1.val < 2 := t'.1.isLt
  have : t.2.val ≠ t'.2.val ∨ t.1.val ≠ t'.1.val := by
    by_contra hn
    simp only [not_or, not_not] at hn
    exact h (Prod.ext (Fin.ext hn.2) (Fin.ext hn.1))
  omega

theorem rowsR_cover : (Finset.univ : Finset (Fin 2 × Fin 16)).biUnion (fun t => (rowsR t).set) = Finset.univ := by
  refine Finset.eq_univ_of_forall fun i => ?_
  have h0 : (i 0).val < 512 := (i 0).isLt
  have h1 : (i 1).val < 512 := (i 1).isLt
  refine Finset.mem_biUnion.mpr ⟨(⟨(i 0).val / 16 % 2, Nat.mod_lt _ (by decide)⟩, ⟨(i 0).val / 32, by omega⟩), Finset.mem_univ _,
    Rect.mem_set_unit.mpr fun a => ?_⟩
  fin_cases a
  · show 32 * ((i 0).val / 32) + 16 * ((i 0).val / 16 % 2) ≤ (i 0).val ∧ (i 0).val < 32 * ((i 0).val / 32) + 16 * ((i 0).val / 16 % 2) + 16
    omega
  · exact ⟨Nat.zero_le _, by show (i 1).val < 0 + 512; omega⟩

instance : ∀ e, Nonempty (Elt F e) := fun e => inferInstance

/-- A whole buffer is cut into its slots. -/
theorem cut_slots (c : Dev nD) (M : Memref sig .tc .vmem S2x16x16x512 .bf16) (hM : M.view.set = Finset.univ) (f : M.view.ty.Contents (Elt F)) :
    (M.view.loc (c : Thread nD τ) ↦{fullShare} f : sProp 𝕄) ⊢ bigSep Finset.univ fun t : Fin 2 × Fin 16 => slotAny M c t.1 t.2 := by
  have e := pointsTo_rects (Ix := Unit) (Name := ℕ) (U := UU) (Lvl := ℕ) (c : Thread nD τ) M fullShare slotR (fun _ _ => rfl) slotR_disjoint slotR_cover f
  rw [hM] at e
  refine (Entails.of_eq e).trans ?_
  exact bigSep_mono fun t _ => slot_any M c t.1 t.2 _

theorem slotAny_elements (M : Memref sig .tc .vmem S2x16x16x512 .bf16) (c : Dev nD) (t : Fin 2 × Fin 16) :
    (slotAny M c t.1 t.2 : sProp 𝕄) ⊢ iprop(∃ f, M.view.loc (c : Thread nD τ) ↦[(M.view.slice (slotR t)).set]{fullShare} f) := by
  unfold slotAny slot owns
  iintro ⟨%v, %f, -, H⟩
  iexists f; iexact H

/-- The slots make up the whole buffer. -/
theorem join_slots (c : Dev nD) (M : Memref sig .tc .vmem S2x16x16x512 .bf16) (hM : M.view.set = Finset.univ) :
    (bigSep Finset.univ fun t : Fin 2 × Fin 16 => (slotAny M c t.1 t.2 : sProp 𝕄)) ⊢ iprop(∃ f : M.view.ty.Contents (Elt F), M.view.loc (c : Thread nD τ) ↦{fullShare} f) := by
  have hd : ∀ t t' : Fin 2 × Fin 16, t ≠ t' → Disjoint (M.view.slice (slotR t)).set (M.view.slice (slotR t')).set := fun t t' h => by
    rw [View.set_slice, View.set_slice]; exact (Finset.disjoint_map _).mpr (slotR_disjoint t t' h)
  have hc : (Finset.univ : Finset (Fin 2 × Fin 16)).biUnion (fun t => (show Finset (Idx (M.view.loc (c : Thread nD τ))) from (M.view.slice (slotR t)).set)) = Finset.univ := by
    refine Finset.eq_univ_of_forall fun i => ?_
    have hi : i ∈ M.view.set := hM ▸ Finset.mem_univ _
    obtain ⟨x, -, rfl⟩ := Finset.mem_map.mp hi
    obtain ⟨t, -, hx⟩ := Finset.mem_biUnion.mp (slotR_cover.symm ▸ Finset.mem_univ x)
    exact Finset.mem_biUnion.mpr ⟨t, Finset.mem_univ _, by rw [View.set_slice]; exact Finset.mem_map_of_mem _ hx⟩
  refine (bigSep_mono fun t _ => ?_).trans (Ring.pointsTo_blocks_join_exists (ℓ := M.view.loc (c : Thread nD τ)) (fun t => (M.view.slice (slotR t)).set) hd hc (fun _ => Classical.arbitrary _))
  exact slotAny_elements M c t

/-- The chunk of wave `w` of device `e` in a whole result. -/
abbrev chunkOf (P : S512x512.Idx → Elt F .f32) (w : Fin 2) (e : Dev nD) : Chunk F := fun x => P ((rowsR (w, e)).emb x)

/-- The whole result is cut into its chunks; -/
theorem cut_chunks (c : Dev nD) (P : S512x512.Idx → Elt F .f32) :
    (owns (c : Thread nD τ) outM fullShare P : sProp 𝕄) ⊢ bigSep Finset.univ fun t : Fin 2 × Fin 16 => chunk c t.1 t.2 (chunkOf P t.1 t.2) :=
  (owns_rects (c : Thread nD τ) outM fullShare rowsR (fun _ _ => rfl) rowsR_disjoint rowsR_cover P)

/-- and the chunks make up the whole. -/
theorem join_chunks (c : Dev nD) (P : S512x512.Idx → Elt F .f32) :
    (bigSep Finset.univ fun t : Fin 2 × Fin 16 => (chunk c t.1 t.2 (chunkOf P t.1 t.2) : sProp 𝕄)) ⊢ owns (c : Thread nD τ) outM fullShare P :=
  owns_of_rects (c : Thread nD τ) outM fullShare rowsR (fun _ _ => rfl) rowsR_disjoint rowsR_cover P

/-! ## Loads and stores -/

theorem load_rows (c : Dev nD) (w : Fin 2) (e : Dev nD) (v : Chunk F) (k : Vec F S16x512 .f32 → Code F) (Q : PUnit → sProp 𝕄) :
    iprop(chunk c w e v ∗ (chunk c w e v -∗ runs c (k v) Q)) ⊢ runs c (loadRows outM (rowsOff w e) (rowsOff_in w e) k) Q := by
  unfold chunk owns loadRows
  iintro ⟨⟨%f, %hf, H⟩, Hk⟩
  subst hf
  iapply (wp_load_rect 𝒱₀ (c : Thread nD τ) none Set.univ (m := outM) (r := rowsRect (rowsOff w e) (rowsOff_in w e)) (Finset.Subset.refl _)) $$ H
  iintro H
  iapply Hk
  iexists f; isplitr; · ipureintro; rfl
  iexact H

theorem store_rows (c : Dev nD) (w : Fin 2) (e : Dev nD) (v v' : Chunk F) (k : Code F) (Q : PUnit → sProp 𝕄) :
    iprop(chunk c w e v ∗ (chunk c w e v' -∗ runs c k Q)) ⊢ runs c (storeRows outM (rowsOff w e) (rowsOff_in w e) v' k) Q := by
  unfold chunk owns storeRows
  iintro ⟨⟨%f, -, H⟩, Hk⟩
  iapply (wp_load_rect 𝒱₀ (c : Thread nD τ) none Set.univ (m := outM) (r := rowsRect (rowsOff w e) (rowsOff_in w e)) (Finset.Subset.refl _)) $$ H
  iintro H
  iapply (wp_store 𝒱₀ (c : Thread nD τ) none Set.univ (m := outM) (r := rowsRect (rowsOff w e) (rowsOff_in w e)) (Mk := Finset.univ)
    (S := (outM.access (rowsRect (rowsOff w e) (rowsOff_in w e))).set) (Finset.Subset.refl _)) $$ H
  iintro H
  iapply Hk
  iexists ((outM.access (rowsRect (rowsOff w e) (rowsOff_in w e))).write (Elt F) f v' Finset.univ); isplitr; · ipureintro; exact View.read_write_univ _ _
  iexact H

theorem load_slot (M : Memref sig .tc .vmem S2x16x16x512 .bf16) (c : Dev nD) (w : Fin 2) (s : Fin 16) (q : PosShare TreeShare) (v : Slot F)
    (k : Vec F S1x1x16x512 .bf16 → Code F) (Q : PUnit → sProp 𝕄) :
    iprop(slot M c w s q v ∗ (slot M c w s q v -∗ runs c (k v) Q)) ⊢ runs c (loadSlot M (sendOff w s) (sendOff_in w s) k) Q := by
  unfold slot owns loadSlot
  iintro ⟨⟨%f, %hf, H⟩, Hk⟩
  subst hf
  iapply (wp_load_rect 𝒱₀ (c : Thread nD τ) none Set.univ (m := M) (r := slotRect (sendOff w s) (sendOff_in w s)) (Finset.Subset.refl _)) $$ H
  iintro H
  iapply Hk
  iexists f; isplitr; · ipureintro; rfl
  iexact H

theorem store_slot (hM : sendM.IsWhole) (c : Dev nD) (w : Fin 2) (s : Fin 16) (v' : Slot F) (k : Code F) (Q : PUnit → sProp 𝕄) :
    iprop(slotAny sendM c w s ∗ (slot sendM c w s fullShare v' -∗ runs c k Q)) ⊢ runs c (storeSlot sendM hM w s v' k) Q := by
  unfold slotAny slot owns storeSlot
  iintro ⟨⟨%v, %f, -, H⟩, Hk⟩
  iapply (wp_load_rect 𝒱₀ (c : Thread nD τ) none Set.univ (m := sendM) (r := slotRect (sendOff w s) (sendOff_in w s)) (Finset.Subset.refl _)) $$ H
  iintro H
  iapply (wp_store 𝒱₀ (c : Thread nD τ) none Set.univ (m := sendM) (r := slotRect (sendOff w s) (sendOff_in w s)) (Mk := Finset.univ)
    (S := (sendM.access (slotRect (sendOff w s) (sendOff_in w s))).set) (Finset.Subset.refl _)) $$ H
  iintro H
  iapply Hk
  iexists ((sendM.access (slotRect (sendOff w s) (sendOff_in w s))).write (Elt F) f v' Finset.univ); isplitr; · ipureintro; exact View.read_write_univ _ _
  iexact H

end Cert.KernelIdeal.Pieces
-- ==== Proof.Protocol.lean ====
/-
# The protocol

Device `c` and its fifteen peers talk over these semaphores, all used in one round only:

* the barrier of device `c`: each peer adds one unit, and with it hands `c` the slots of its two landing buffers into which
  `c` is going to copy. `c` waits for all fifteen;
* scatter, wave `w`: `c` copies slot `j + 1` of its send buffer (its part of the peer's chunk) to slot `(w, c)` of the peer's
  first landing buffer. The copy credits semaphore `(w, peer)` of `c`'s scatter-send array, which gives the send slot back, and
  semaphore `(w, c)` of the peer's scatter-receive array, which hands the peer the slot holding `c`'s part;
* gather, wave `w`: `c` copies slot 0 of its send buffer (its finished chunk) to slot `(w, c)` of the peer's second landing
  buffer. Fifteen copies read the same slot, each with one share of it, which semaphore `(w, peer)` of the gather-send array gives
  back; semaphore `(w, c)` of the peer's gather-receive array hands the peer the slot holding `c`'s chunk.

Here: the semaphores, the contents, the schedule of who hands over what, what a device owes at launch, and the order in which
waits may depend on each other (barrier, then scatter, then gather).
-/
module

public import proofs.«01_k».proof.Proof.Memory

@[expose] public section

noncomputable section

namespace Cert.KernelIdeal.Protocol

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Loops Cert.KernelIdeal.Pieces

variable {F : FTy → Type} [FloatOps F]

local notation "𝕄" => MT nD τ sig Unit (Elt F) ℕ UU ℕ

/-- The pipeline's ghost state and the protocol's. -/
abbrev EP : Emb (UR sig nD τ) (MT nD τ sig Unit (Elt F) ℕ UU ℕ) := embL
abbrev ER : Emb UB (MT nD τ sig Unit (Elt F) ℕ UU ℕ) := embR

/-! ## Peers -/

theorem peer_back : ∀ (c : Dev nD) (j : Fin 15), peer (peer c j) j.rev = c := by decide +kernel
theorem peer_ne : ∀ (c : Dev nD) (j : Fin 15), peer c j ≠ c := by decide +kernel
theorem peer_injective (c : Dev nD) : ∀ j j' : Fin 15, peer c j = peer c j' → j = j' := by revert c; decide +kernel
theorem peer_exists : ∀ c d : Dev nD, d ≠ c → ∃ j, peer c j = d := by decide +kernel

/-- A device and a peer offset, seen from the peer: the peer, and the offset that leads back. -/
def swap : Dev nD × Fin 15 ≃ Dev nD × Fin 15 where
  toFun x := (peer x.1 x.2, x.2.rev)
  invFun x := (peer x.1 x.2, x.2.rev)
  left_inv x := Prod.ext (peer_back x.1 x.2) (Fin.rev_rev x.2)
  right_inv x := Prod.ext (peer_back x.1 x.2) (Fin.rev_rev x.2)

/-- How far ahead of device `c` device `s` is. -/
def gap (c : Dev nD) (s : Fin 16) : Fin 16 := ⟨(s.val + 16 - c.val) % 16, Nat.mod_lt _ (by decide)⟩
theorem gap_peer : ∀ (c : Dev nD) (j : Fin 15), gap c (peer c j) = j.succ := by decide +kernel

/-! ## Semaphores -/

/-- A semaphore of the four arrays: which array, which wave, which device. -/
abbrev Own : Type := Fin 4 × Fin 2 × Fin 16

/-- Scatter-send, scatter-receive, gather-send, gather-receive. -/
abbrev arr : Fin 4 → DmaSems sig S2x16 := ![cc0_scratch3, cc0_scratch4, cc0_scratch5, cc0_scratch6]
@[irreducible] def dsem (a : Fin 4) (w : Fin 2) (s : Fin 16) : DmaSem sig := semM (arr a) (cellOff w s) (cellOff_in w s)
theorem dsem_eq (a : Fin 4) (w : Fin 2) (s : Fin 16) : dsem a w s = semM (arr a) (cellOff w s) (cellOff_in w s) := by unfold dsem; rfl
abbrev barS : Sem sig := (SemArray.scalar (sig.barrier 0 rfl) : Sems sig S_).sem

abbrev barCell (c : Dev nD) : GSem nD τ sig := ((c : Thread nD τ), .reg barS)
abbrev cell (c : Dev nD) (a : Fin 4) (w : Fin 2) (s : Fin 16) : GSem nD τ sig := ((c : Thread nD τ), .dma (dsem a w s))

/-- Which of the four arrays' semaphores a transfer semaphore is. -/
def slotOf (q : DmaSem sig) : Own :=
  (⟨(q.val - 3) / 32 % 4, Nat.mod_lt _ (by decide)⟩, ⟨(q.val - 3) / 16 % 2, Nat.mod_lt _ (by decide)⟩, ⟨(q.val - 3) % 16, Nat.mod_lt _ (by decide)⟩)
theorem slotOf_dsem : ∀ (a : Fin 4) (w : Fin 2) (s : Fin 16), slotOf (dsem a w s) = (a, w, s) := by
  simp only [dsem_eq]; decide +kernel

/-- What a copy of one slot credits. -/
@[irreducible] def N : ℕ := (slotM partM (sendOff 0 0) (sendOff_in 0 0)).view.dmaCredit
theorem N_pos : 0 < N := by unfold N; exact View.dmaCredit_pos _ (by decide)
theorem credit_eq (M : Memref sig .tc .vmem S2x16x16x512 .bf16) (o : Fin 4 → ℕ) (h : SlotIn o) : (slotM M o h).view.dmaCredit = N := by
  unfold N; rfl

/-! ## Contents -/

section Contents
variable (P : Dev nD → S512x512.Idx → Elt F .f32)

/-- Device `d`'s part of device `e`'s chunk, as it travels. -/
def part (d : Dev nD) (w : Fin 2) (e : Dev nD) : Slot F := castPay (chunkOf (P d) w e)

/-- The sum of device `c`'s chunk: its own part, and then its peers' in the order in which it collects them. -/
def red (c : Dev nD) (w : Fin 2) : Chunk F :=
  js.foldl (fun acc j => addf acc (wide (part P (peer c j) w c))) (shapeCast S16x512 (chunkOf (P c) w c) shapeCasts_S16x512_S16x512)

/-- The finished chunk of device `c`, and as it travels. -/
def res (c : Dev nD) (w : Fin 2) : Chunk F := act (red P c w)
def resb (c : Dev nD) (w : Fin 2) : Slot F :=
  shapeCast S1x1x16x512 (truncf .bf16 (res P c w) bitsLt_bf16_f32) shapeCasts_S16x512_S1x1x16x512

/-- What device `c` has in device `e`'s chunk at the end: its own as computed, a peer's as it arrived. -/
def outChunk (c : Dev nD) (w : Fin 2) (e : Dev nD) : Chunk F := if e = c then res P c w else wide (resb P e w)

end Contents

/-! ## The schedule -/

/-- The slots of device `d`'s landing buffers into which device `c` copies. -/
def landing (d c : Dev nD) : sProp 𝕄 :=
  iprop((slotAny partM d 0 c ∗ slotAny partM d 1 c) ∗ (slotAny doneM d 0 c ∗ slotAny doneM d 1 c))

/-- The share of the finished slot which the copy to the peer `n` ahead reads with. -/
abbrev readShare (n : ℕ) : PosShare TreeShare := Transfers.shareTokN fullShare n

/-- What the semaphore `(a, w, s)` hands device `c`. -/
def handed (P : Dev nD → S512x512.Idx → Elt F .f32) (c : Dev nD) (k : Own) : sProp 𝕄 := match k.1 with
  | 0 => slotAny sendM c k.2.1 (gap c k.2.2)
  | 1 => slot partM c k.2.1 k.2.2 fullShare (part P k.2.2 k.2.1 c)
  | 2 => slot sendM c k.2.1 0 (readShare ((gap c k.2.2).val - 1)) (resb P c k.2.1)
  | 3 => slot doneM c k.2.1 k.2.2 fullShare (resb P k.2.2 k.2.1)

def rd (P : Dev nD → S512x512.Idx → Elt F .f32) : Rounds.Schedule (GSem nD τ sig) (Fin 15) 𝕄 where
  duties g r := if r = 0 then (match g.2 with
    | .reg _ => Finset.univ
    | .dma q => if (slotOf q).2.2 = g.1.1 then ∅ else {0}) else ∅
  unitless _ := False
  amount g _ _ := match g.2 with
    | .reg _ => 1
    | .dma _ => N
  payload g _ d := match g.2 with
    | .reg _ => landing (peer g.1.1 d) g.1.1
    | .dma q => handed P g.1.1 (slotOf q)
  amount_pos g _ _ _ := by
    split
    · exact Nat.one_pos
    · exact N_pos

instance landing_storable (d c : Dev nD) : BI.Storable (upEmb : UEmb _ 𝕄) (landing (F := F) d c) := by unfold landing; infer_instance
instance handed_storable (P : Dev nD → S512x512.Idx → Elt F .f32) (c : Dev nD) (k : Own) : BI.Storable (upEmb : UEmb _ 𝕄) (handed P c k) := by
  unfold handed; split <;> infer_instance
instance rd_payload_storable (P : Dev nD → S512x512.Idx → Elt F .f32) (g : GSem nD τ sig) (r : ℕ) (d : Fin 15) :
    BI.Storable (upEmb : UEmb _ 𝕄) ((rd P).payload g r d) := by
  show BI.Storable upEmb (match g.2 with
    | .reg _ => landing (peer g.1.1 d) g.1.1
    | .dma q => handed P g.1.1 (slotOf q))
  split <;> infer_instance

section Schedule
variable (P : Dev nD → S512x512.Idx → Elt F .f32) (c : Dev nD) (a : Fin 4) (w : Fin 2) (s : Fin 16)

theorem amount_bar (d : Fin 15) : (rd P).amount (barCell c) 0 d = 1 := rfl
theorem amount_cell (d : Fin 15) : (rd P).amount (cell c a w s) 0 d = N := rfl
theorem duties_bar : (rd P).duties (barCell c) 0 = Finset.univ := rfl
theorem duties_cell (h : s ≠ c) : (rd P).duties (cell c a w s) 0 = {0} := by
  show (if (slotOf (dsem a w s)).2.2 = c then ∅ else {0}) = _
  rw [slotOf_dsem]; exact if_neg h
theorem duties_own (r : ℕ) : (rd P).duties (cell c a w c) r = ∅ := by
  by_cases hr : r = 0
  · subst hr
    show (if (slotOf (dsem a w c)).2.2 = c then ∅ else {0}) = _
    rw [slotOf_dsem]; exact if_pos rfl
  · exact if_neg hr
theorem duties_later (g : GSem nD τ sig) : ∀ r, 1 ≤ r → (rd P).duties g r = ∅ := fun r hr => if_neg (by omega)

theorem expect_bar : (rd P).expect (barCell c) 0 = 15 := by
  show (∑ d ∈ (Finset.univ : Finset (Fin 15)), 1) = 15
  simp
theorem expect_cell (h : s ≠ c) : (rd P).expect (cell c a w s) 0 = N := by
  unfold Schedule.expect Schedule.amountOf; rw [duties_cell P c a w s h, Finset.sum_singleton]; rfl

theorem payload_bar (j : Fin 15) : (rd P).payload (barCell c) 0 j = landing (peer c j) c := rfl
theorem payload_cell (d : Fin 15) : (rd P).payload (cell c a w s) 0 d = handed P c (a, w, s) := by
  show handed P c (slotOf (dsem a w s)) = _
  rw [slotOf_dsem]
theorem rest_bar : bigSep ((rd P).duties (barCell c) 0 \ ∅) (fun d => (rd P).payload (barCell c) 0 d) = bigSep Finset.univ fun j => landing (peer c j) c := by
  rw [Finset.sdiff_empty]; rfl
theorem rest_cell (h : s ≠ c) : bigSep ((rd P).duties (cell c a w s) 0 \ ∅) (fun d => (rd P).payload (cell c a w s) 0 d) = handed P c (a, w, s) := by
  rw [Finset.sdiff_empty, duties_cell P c a w s h, bigSep_singleton, payload_cell]

end Schedule

/-! ## What is owed -/

/-- `base` and one more payment for each peer offset of the list, the first to be paid last. -/
def debt (f : Fin 15 → CellTallies nD τ sig Unit) (base : CellTallies nD τ sig Unit) (l : List (Fin 15)) : CellTallies nD τ sig Unit :=
  l.foldr (fun j O => O + f j) base

/-- Device `c`'s unit for its peer's barrier, and the credit which its copy brings to semaphore `(a, w, c)` of the peer. -/
abbrev payBar (c : Dev nD) (j : Fin 15) : CellTallies nD τ sig Unit := tallyAt (barCell (peer c j)) () 1
abbrev payCell (c : Dev nD) (a : Fin 4) (w : Fin 2) (j : Fin 15) : CellTallies nD τ sig Unit := tallyAt (cell (peer c j) a w c) () N

/-- What is still owed when the second gather, both gathers, and both gathers and the second scatter, and so on, are to come. -/
def owed1 (c : Dev nD) : CellTallies nD τ sig Unit := debt (payCell c 3 1) 0 js
def owed2 (c : Dev nD) : CellTallies nD τ sig Unit := debt (payCell c 3 0) (owed1 c) js
def owed3 (c : Dev nD) : CellTallies nD τ sig Unit := debt (payCell c 1 1) (owed2 c) js
def owed4 (c : Dev nD) : CellTallies nD τ sig Unit := debt (payCell c 1 0) (owed3 c) js
def owed5 (c : Dev nD) : CellTallies nD τ sig Unit := debt (payBar c) (owed4 c) js

/-! ## The order of waits -/

def L (g : GSem nD τ sig) : Finset Unit := if g.1.2 = .tc then {()} else ∅
/-- The barrier at 1, scatter-receive at 2, gather-receive at 3; a semaphore which the device itself feeds, at 0. -/
def lv (g : GSem nD τ sig) (_ : Unit) : ℕ := match g.2 with
  | .reg _ => 1
  | .dma q => (![0, 2, 0, 3] : Fin 4 → ℕ) (slotOf q).1

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (a : Fin 4) (w : Fin 2) (s : Fin 16) : lv (cell c a w s) () = (![0, 2, 0, 3] : Fin 4 → ℕ) a := by
  show (![0, 2, 0, 3] : Fin 4 → ℕ) (slotOf (dsem a w s)).1 = _
  rw [slotOf_dsem]

/-- Everything owed in `O` is owed to semaphores above level `b`. -/
def Above (b : ℕ) (O : CellTallies nD τ sig Unit) : Prop := ∀ g i, 0 < O g i → i ∈ L g ∧ b < lv g i

theorem above_zero (b : ℕ) : Above b 0 := fun g i h => absurd h (Nat.lt_irrefl 0)
theorem above_tally (b : ℕ) (c : Dev nD) (sm : SemLoc sig) (k : ℕ) (h : b < lv ((c : Thread nD τ), sm) ()) : Above b (tallyAt ((c : Thread nD τ), sm) () k) := by
  intro g i hg
  rw [tallyAt_apply] at hg
  by_cases e : g = ((c : Thread nD τ), sm) ∧ i = ()
  · rw [e.1, L_tc]; exact ⟨Finset.mem_singleton_self _, h⟩
  · rw [if_neg e] at hg; exact absurd hg (Nat.lt_irrefl 0)
theorem above_add (b : ℕ) (O O' : CellTallies nD τ sig Unit) (h : Above b O) (h' : Above b O') : Above b (O + O') := by
  intro g i hg
  rw [Pi.add_apply, Finsupp.add_apply] at hg
  rcases Nat.eq_zero_or_pos (O g i) with h0 | h0
  · exact h' g i (by omega)
  · exact h g i h0
theorem above_debt (b : ℕ) (f : Fin 15 → CellTallies nD τ sig Unit) (base : CellTallies nD τ sig Unit) (hb : Above b base) (hf : ∀ j, Above b (f j)) :
    ∀ l, Above b (debt f base l)
  | [] => hb
  | j :: l => above_add b _ _ (above_debt b f base hb hf l) (hf j)

theorem above_cell (b : ℕ) (c : Dev nD) (a : Fin 4) (w : Fin 2) (h : b < (![0, 2, 0, 3] : Fin 4 → ℕ) a) (j : Fin 15) : Above b (payCell c a w j) :=
  above_tally b _ _ _ (by rw [lv_cell]; exact h)
theorem above1 (c : Dev nD) : Above 2 (owed1 c) := above_debt 2 _ _ (above_zero 2) (above_cell 2 c 3 1 (by decide)) js
theorem above2 (c : Dev nD) : Above 2 (owed2 c) := above_debt 2 _ _ (above1 c) (above_cell 2 c 3 0 (by decide)) js
theorem Above.mono {b b' : ℕ} (h : b' ≤ b) {O : CellTallies nD τ sig Unit} (hO : Above b O) : Above b' O := fun g i hg => ⟨(hO g i hg).1, Nat.lt_of_le_of_lt h (hO g i hg).2⟩
theorem above4 (c : Dev nD) : Above 1 (owed4 c) :=
  above_debt 1 _ _ (above_debt 1 _ _ ((above2 c).mono (by decide)) (above_cell 1 c 1 1 (by decide)) js) (above_cell 1 c 1 0 (by decide)) js
theorem above5 (c : Dev nD) : Above 0 (owed5 c) := above_debt 0 _ _ ((above4 c).mono (by decide)) (fun j => above_tally 0 (peer c j) (.reg barS) 1 Nat.one_pos) js

/-- A device may wait on a semaphore when all that it owes is owed above. -/
theorem mayWait (c : Dev nD) (sm : SemLoc sig) (b : ℕ) (O : CellTallies nD τ sig Unit) (h : lv ((c : Thread nD τ), sm) () = b) (hO : Above b O) :
    (levAts L lv : sProp 𝕄) ⊢ MayWait (c : Thread nD τ) sm () O :=
  Pipeline.mayWait_of_levAts (by rw [L_tc]; exact Finset.mem_singleton_self _) fun g i hg => ⟨(hO g i hg).1, by rw [h]; exact (hO g i hg).2⟩

/-! ## The records every device has -/

/-- All semaphores of the protocol: of every device its barrier (`none`) and its four arrays. -/
abbrev Cells : Type := Dev nD × Option Own
def cellAt (x : Cells) : GSem nD τ sig := match x.2 with
  | none => barCell x.1
  | some k => cell x.1 k.1 k.2.1 k.2.2

/-- The protocol's invariants on all semaphores, which are all in their first round, and the order of waits. -/
def records (P : Dev nD → S512x512.Idx → Elt F .f32) (K : Cells → ℕ) : sProp 𝕄 :=
  iprop((bigSep Finset.univ fun x : Cells => iprop(cellInv ER (rd P) (K x) (cellAt x) ∗ reached ER (cellAt x) 0)) ∗ levAts L lv)

instance records_persistent (P : Dev nD → S512x512.Idx → Elt F .f32) (K : Cells → ℕ) : BI.Persistent (records P K) := by unfold records; infer_instance

variable (P : Dev nD → S512x512.Idx → Elt F .f32) (K : Cells → ℕ)

theorem records_at (x : Cells) : records P K ⊢ iprop(cellInv ER (rd P) (K x) (cellAt x) ∗ reached ER (cellAt x) 0) := by
  unfold records
  exact sep_elim_left.trans (bigSep_elim (Φ := fun x : Cells => iprop(cellInv ER (rd P) (K x) (cellAt x) ∗ reached ER (cellAt x) 0)) (Finset.mem_univ x))
theorem records_bar (c : Dev nD) : records P K ⊢ iprop(cellInv ER (rd P) (K (c, none)) (barCell c) ∗ reached ER (barCell c) 0) := records_at P K (c, none)
theorem records_cell (c : Dev nD) (a : Fin 4) (w : Fin 2) (s : Fin 16) :
    records P K ⊢ iprop(cellInv ER (rd P) (K (c, some (a, w, s))) (cell c a w s) ∗ reached ER (cell c a w s) 0) := records_at P K (c, some (a, w, s))
theorem records_mayWait (c : Dev nD) (sm : SemLoc sig) (b : ℕ) (O : CellTallies nD τ sig Unit) (h : lv ((c : Thread nD τ), sm) () = b) (hO : Above b O) :
    records P K ⊢ MayWait (c : Thread nD τ) sm () O := by
  unfold records; iintro ⟨-, H⟩; iapply (mayWait c sm b O h hO); iexact H

/-- Device `c` still owes `O`. -/
def owing (c : Dev nD) (O : CellTallies nD τ sig Unit) : sProp 𝕄 := iprop(∃ W, owes (c : Thread nD τ) O W)

end Cert.KernelIdeal.Protocol
-- ==== Proof.Steps.lean ====
/-
# One step of each loop

What one turn of each loop of the kernel's body does to the device's resources, at a symbolic device, wave and peer offset, and
the rule that carries a turn through all fifteen offsets.
-/
module

public import proofs.«01_k».proof.Proof.Protocol

@[expose] public section

noncomputable section

namespace Cert.KernelIdeal.Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Loops Cert.KernelIdeal.Pieces Cert.KernelIdeal.Protocol

variable {F : FTy → Type} [FloatOps F]

local notation "𝕄" => MT nD τ sig Unit (Elt F) ℕ UU ℕ

/-! ## Loops -/

/-- One resource for each peer offset of the list. -/
def over (l : List (Fin 15)) (Φ : Fin 15 → sProp 𝕄) : sProp 𝕄 := match l with
  | [] => iprop(emp)
  | j :: l => iprop(Φ j ∗ over l Φ)

theorem over_nodup (Φ : Fin 15 → sProp 𝕄) : ∀ l : List (Fin 15), l.Nodup → over l Φ = bigSep l.toFinset Φ
  | [], _ => by unfold over; rw [List.toFinset_nil, bigSep_empty]; rfl
  | j :: l, h => by
      have hn := List.nodup_cons.mp h
      unfold over
      rw [List.toFinset_cons, bigSep_insert (fun h' => hn.1 (List.mem_toFinset.mp h')), over_nodup Φ l hn.2]; rfl

/-- All fifteen peer offsets, in any order. -/
theorem over_js (Φ : Fin 15 → sProp 𝕄) : over js Φ = bigSep Finset.univ Φ := by
  rw [over_nodup Φ js (by decide), show js.toFinset = Finset.univ by decide]

/-- A loop that carries a value: a turn at offset `j` spends `R j`, makes `S j`, and takes the invariant from `j :: l` to `l`. -/
theorem loop_acc {A : Type} (c : Dev nD) (Q : PUnit → sProp 𝕄) (Z : sProp 𝕄) [BI.Persistent Z] (R S : Fin 15 → sProp 𝕄) (I : List (Fin 15) → sProp 𝕄)
    (step : Fin 15 → (A → Code F) → A → Code F) (g : A → Fin 15 → A)
    (h : ∀ j l k a, iprop(Z ∗ R j ∗ I (j :: l) ∗ ((S j ∗ I l) -∗ runs c (k (g a j)) Q)) ⊢ runs c (step j k a) Q) :
    ∀ l k a, iprop(Z ∗ over l R ∗ I l ∗ ((over l S ∗ I []) -∗ runs c (k (l.foldl g a)) Q)) ⊢ runs c (l.foldr step k a) Q
  | [], k, a => by
      iintro ⟨#HZ, HR, HI, Hk⟩
      iapply Hk
      isplitl [HR]; · iexact HR
      iexact HI
  | j :: l, k, a => by
      show _ ⊢ runs c (step j (l.foldr step k) a) Q
      refine BIBase.Entails.trans ?_ (h j l (l.foldr step k) a)
      unfold over
      iintro ⟨#HZ, ⟨HR, HRs⟩, HI, Hk⟩
      isplitr; · iexact HZ
      isplitl [HR]; · iexact HR
      isplitl [HI]; · iexact HI
      iintro ⟨HS, HI⟩
      iapply (loop_acc c Q Z R S I step g h l k (g a j))
      isplitr; · iexact HZ
      isplitl [HRs]; · iexact HRs
      isplitl [HI]; · iexact HI
      iintro ⟨HSs, HI⟩
      iapply Hk
      isplitl [HS HSs]
      · isplitl [HS]; · iexact HS
        iexact HSs
      iexact HI

/-- A loop. -/
theorem loop (c : Dev nD) (Q : PUnit → sProp 𝕄) (Z : sProp 𝕄) [BI.Persistent Z] (R S : Fin 15 → sProp 𝕄) (I : List (Fin 15) → sProp 𝕄)
    (step : Fin 15 → Code F → Code F)
    (h : ∀ j l k, iprop(Z ∗ R j ∗ I (j :: l) ∗ ((S j ∗ I l) -∗ runs c k Q)) ⊢ runs c (step j k) Q) :
    ∀ l k, iprop(Z ∗ over l R ∗ I l ∗ ((over l S ∗ I []) -∗ runs c k Q)) ⊢ runs c (l.foldr step k) Q
  | [], k => by
      iintro ⟨#HZ, HR, HI, Hk⟩
      iapply Hk
      isplitl [HR]; · iexact HR
      iexact HI
  | j :: l, k => by
      show _ ⊢ runs c (step j (l.foldr step k)) Q
      refine BIBase.Entails.trans ?_ (h j l (l.foldr step k))
      unfold over
      iintro ⟨#HZ, ⟨HR, HRs⟩, HI, Hk⟩
      isplitr; · iexact HZ
      isplitl [HR]; · iexact HR
      isplitl [HI]; · iexact HI
      iintro ⟨HS, HI⟩
      iapply (loop c Q Z R S I step h l k)
      isplitr; · iexact HZ
      isplitl [HRs]; · iexact HRs
      isplitl [HI]; · iexact HI
      iintro ⟨HSs, HI⟩
      iapply Hk
      isplitl [HS HSs]
      · isplitl [HS]; · iexact HS
        iexact HSs
      iexact HI

/-! ## Signals, copies, waits -/

section Steps
variable (P : Dev nD → S512x512.Idx → Elt F .f32) (K : Cells → ℕ) (c : Dev nD) (w : Fin 2) (j : Fin 15)

/-- A signal hands the peer the slots into which it copies. -/
theorem signal_step (k : Code F) (Q : PUnit → sProp 𝕄) (O : CellTallies nD τ sig Unit) :
    iprop(records P K ∗ (dutyTok ER (barCell (peer c j)) 0 j.rev ∗ landing c (peer c j)) ∗ owing c (O + payBar c j) ∗ ((emp ∗ owing c O) -∗ runs c k Q))
      ⊢ runs c (.op (.semSignal ((⟨(plain c).peer j, (plain c).peer_lt j⟩ : Dev nD), .tc) barS (1#32).toInt) fun _ => k) Q := by
  unfold owing
  iintro ⟨#HZ, ⟨Ht, Hl⟩, ⟨%W, HO⟩, Hk⟩
  ihave HB := (records_bar P K (peer c j)) $$ HZ
  icases HB with ⟨#HI, #HR⟩
  iapply (Rounds.wp_signal 𝒱₀ ER (rd P) (c : Thread nD τ) none (dst := (peer c j : Thread nD τ)) (κ := K (peer c j, none))
      (d := j.rev) (by rw [duties_bar]; exact Finset.mem_univ _) ((amount_bar P (peer c j) j.rev).trans (by decide)) () O rfl)
    $$ [HO Ht Hl]
  · isplitr; · iexact HI
    isplitl [HO]; · iexact HO
    isplitl [Ht]; · iexact Ht
    isplitl [Hl]; · rw [payload_bar, peer_back]; iexact Hl
    iexact HR
  iintro HO
  iapply Hk
  isplitr; · iempintro
  iexists W; iexact HO

/-- What a copy leaves in the slot it writes is what the slot it reads holds. -/
theorem read_copied (M M' : Memref sig .tc .vmem S2x16x16x512 .bf16) (o o' : Fin 4 → ℕ) (h : SlotIn o) (h' : SlotIn o')
    (fs : M.view.ty.Contents (Elt F)) (fd : M'.view.ty.Contents (Elt F)) :
    (M'.slice (slotRect o' h') (fun _ => rfl)).view.read (Elt F) ((slotM M' o' h').view.write (Elt F) fd ((slotM M o h).view.read (Elt F) fs) Finset.univ)
      = (M.slice (slotRect o h) (fun _ => rfl)).view.read (Elt F) fs := by
  have e : (slotM M' o' h').view.read (Elt F) ((slotM M' o' h').view.write (Elt F) fd ((slotM M o h).view.read (Elt F) fs) Finset.univ)
      = (slotM M o h).view.read (Elt F) fs := View.read_write_univ _ _
  funext x
  obtain ⟨y, rfl⟩ := (Shape.reshapeEquiv (s := S1x1x16x512) (s' := S16x512) (by decide)).surjective x
  exact congrFun e y

/-- A slot's elements as the copies address them. -/
theorem slot_open (M : Memref sig .tc .vmem S2x16x16x512 .bf16) (d : Dev nD) (s : Fin 16) (q : PosShare TreeShare) (v : Slot F) :
    slot M d w s q v = iprop(∃ f, ⌜(M.slice (slotRect (sendOff w s) (sendOff_in w s)) (fun _ => rfl)).view.read (Elt F) f = v⌝
      ∗ ((slotM M (sendOff w s) (sendOff_in w s)).view.loc (d : Thread nD τ) ↦[(slotM M (sendOff w s) (sendOff_in w s)).view.set]{q} f)) := by
  unfold slot owns; rw [View.set_reshape]

/-- A copy of one slot to a peer: the slot's share comes back by the own semaphore, the peer gets the slot written. -/
theorem send_op (k : Code F) (Q : PUnit → sProp 𝕄) (M : Memref sig .tc .vmem S2x16x16x512 .bf16) (hM : M.IsWhole) (a b : Fin 4) (s : Fin 16) (q : PosShare TreeShare) (v : Slot F)
    (h₁ : slot sendM c w s q v ⊢ handed P c (a, w, peer c j)) (h₂ : slot M (peer c j) w c fullShare v ⊢ handed P (peer c j) (b, w, c))
    (O : CellTallies nD τ sig Unit) (q₁ q₂ : DmaSem sig) (e₁ : q₁ = dsem a w (peer c j)) (e₂ : q₂ = dsem b w c) (hsc hsrc hdst hsem) :
    iprop(records P K ∗ (slot sendM c w s q v ∗ slotAny M (peer c j) w c ∗ dutyTok ER (cell c a w (peer c j)) 0 0 ∗ dutyTok ER (cell (peer c j) b w c) 0 0)
        ∗ owing c (O + payCell c b w j) ∗ ((cred (tallyAt (cell c a w (peer c j)) () N) ∗ owing c O) -∗ runs c k Q))
      ⊢ runs c (.op (.enqueueDma (slotM sendM (sendOff w s) (sendOff_in w s))
        (.remote (peer c j : Thread nD τ) (slotM M (sendOff w c) (sendOff_in w c)) (.dma q₁) hsc) (.dma q₂) hsrc hdst hsem) fun _ => k) Q := by
  subst e₁ e₂
  iintro ⟨#HZ, ⟨Hs, Hd, Ht, Ht'⟩, HO, Hk⟩
  ihave HA := (records_cell P K c a w (peer c j)) $$ HZ
  ihave HB := (records_cell P K (peer c j) b w c) $$ HZ
  icases HA with ⟨#HI, #HR⟩
  icases HB with ⟨#HI', #HR'⟩
  unfold slotAny owing
  simp only [slot_open]
  icases Hs with ⟨%fs, %hfs, Hs⟩
  icases Hd with ⟨%vd, %fd, -, Hd⟩
  icases HO with ⟨%W, HO⟩
  iapply (Rounds.wp_send_pointsTo 𝒱₀ ER (rd P) (c : Thread nD τ) none (c' := (peer c j : Thread nD τ)) (κ₁ := K (c, some (a, w, peer c j))) (κ₂ := K (peer c j, some (b, w, c)))
      (src := slotM sendM (sendOff w s) (sendOff_in w s)) (dst := slotM M (sendOff w c) (sendOff_in w c)) (sS := .dma (dsem a w (peer c j))) (sem := .dma (dsem b w c))
      (q := q) (fs := fs) (fd := fd) (r₁ := 0) (r₂ := 0) (d₁ := 0) (d₂ := 0)
      (by rw [duties_cell P c a w _ (peer_ne c j)]; exact Finset.mem_singleton_self _)
      (by rw [duties_cell P (peer c j) b w c (peer_ne c j).symm]; exact Finset.mem_singleton_self _)
      () () N (credit_eq M _ _) (amount_cell P c a w _ 0) (amount_cell P (peer c j) b w c 0) O rfl (W := W)
      (by
        rw [payload_cell]
        refine BIBase.Entails.trans ?_ h₁
        rw [slot_open]
        iintro H; iexists fs; isplitr; · ipureintro; exact hfs
        iexact H)
      (by
        rw [payload_cell]
        refine BIBase.Entails.trans ?_ h₂
        rw [slot_open]
        iintro H
        iexists ((slotM M (sendOff w c) (sendOff_in w c)).view.write (Elt F) fd ((slotM sendM (sendOff w s) (sendOff_in w s)).view.read (Elt F) fs) Finset.univ)
        isplitr; · ipureintro; exact (read_copied sendM M (sendOff w s) (sendOff w c) (sendOff_in w s) (sendOff_in w c) fs fd).trans hfs
        iexact H)) $$ [Hs Hd Ht Ht' HO]
  · isplitr; · iexact HI
    isplitr; · iexact HI'
    isplitl [Hs]; · iexact Hs
    isplitl [Hd]; · iexact Hd
    isplitl [HO]; · iexact HO
    isplitl [Ht]; · iexact Ht
    isplitr; · iexact HR
    isplitl [Ht']; · iexact Ht'
    iexact HR'
  iintro ⟨Hc, HO⟩
  iapply Hk
  isplitl [Hc]; · iexact Hc
  iexists W; iexact HO

/-- The same of the kernel's own text. -/
theorem send_step (k : Code F) (Q : PUnit → sProp 𝕄) (h3 : sendM.IsWhole) (M : Memref sig .tc .vmem S2x16x16x512 .bf16) (hM : M.IsWhole) (a b : Fin 4) (s : Fin 16) (q : PosShare TreeShare) (v : Slot F)
    (h₁ : slot sendM c w s q v ⊢ handed P c (a, w, peer c j)) (h₂ : slot M (peer c j) w c fullShare v ⊢ handed P (peer c j) (b, w, c))
    (O : CellTallies nD τ sig Unit) :
    iprop(records P K ∗ (slot sendM c w s q v ∗ slotAny M (peer c j) w c ∗ dutyTok ER (cell c a w (peer c j)) 0 0 ∗ dutyTok ER (cell (peer c j) b w c) 0 0)
        ∗ owing c (O + payCell c b w j) ∗ ((cred (tallyAt (cell c a w (peer c j)) () N) ∗ owing c O) -∗ runs c k Q))
      ⊢ runs c (sendSlot (plain c) sendM h3 M hM (arr a) (arr b) w s j k) Q := by
  exact send_op P K c w j k Q M hM a b s q v h₁ h₂ O _ _ (dsem_eq a w (peer c j)).symm (dsem_eq b w c).symm _ _ _ _

/-- What a wait on one of the arrays' semaphores needs and gives. -/
abbrev pending (c : Dev nD) (b : Fin 4) (w : Fin 2) (s : Fin 16) : sProp 𝕄 :=
  iprop(cred (tallyAt (cell c b w s) () N) ∗ atPos ER (cell c b w s) 0 ∅ 0)
abbrev passed (c : Dev nD) (b : Fin 4) (w : Fin 2) (s : Fin 16) : sProp 𝕄 := atPos ER (cell c b w s) 1 ∅ 0

/-- Waiting for a peer's slot to arrive. -/
theorem recv_op (k : Code F) (Q : PUnit → sProp 𝕄) (M : Memref sig .tc .vmem S2x16x16x512 .bf16) (hM : M.IsWhole) (b : Fin 4) (lb : ℕ) (hb : (![0, 2, 0, 3] : Fin 4 → ℕ) b = lb)
    (O : CellTallies nD τ sig Unit) (hO : Above lb O) (q : DmaSem sig) (e : q = dsem b w (peer c j)) (hs hd) :
    iprop(records P K ∗ pending c b w (peer c j) ∗ owing c O ∗ ((handed P c (b, w, peer c j) ∗ passed c b w (peer c j) ∗ owing c O) -∗ runs c k Q))
      ⊢ runs c (.op (.waitDma2 q (slotM M (sendOff w (peer c j)) (sendOff_in w (peer c j))) (slotM M (sendOff w (peer c j)) (sendOff_in w (peer c j))) hs hd) fun _ => k) Q := by
  subst e
  unfold owing
  iintro ⟨#HZ, ⟨Hc, Ha⟩, ⟨%W, HO⟩, Hk⟩
  ihave HB := (records_cell P K c b w (peer c j)) $$ HZ
  icases HB with ⟨#HI, #HR⟩
  ihave HM := (records_mayWait P K c (.dma (dsem b w (peer c j))) lb O ((lv_cell c b w (peer c j)).trans hb) hO) $$ HZ
  iapply (Rounds.wp_wait_rest_token 𝒱₀ ER (rd P) (c : Thread nD τ) none (κ := K (c, some (b, w, peer c j)))
      (wpE_waitDma2_eq 𝒱₀ (c : Thread nD τ) none Set.univ) (Set.mem_univ _) () (O := O) (W := W) (R := 0) (m := 0) (T := ∅)
      (by rw [Nat.zero_add, credit_eq, expect_cell P c b w _ (peer_ne c j)])) $$ [Hc HO HM Ha]
  · isplitr; · iexact HI
    isplitl [Hc]; · rw [credit_eq]; iexact Hc
    isplitl [HO]; · iexact HO
    isplitl [HM]; · iexact HM
    iexact Ha
  iintro ⟨HO, Ha, -, Hp⟩
  ihave Hp := (Entails.of_eq (rest_cell P c b w _ (peer_ne c j))) $$ Hp
  iapply Hk
  isplitl [Hp]; · iexact Hp
  isplitl [Ha]; · iexact Ha
  iexists _; iexact HO
/-- The same of the kernel's own text. -/
theorem recv_step (k : Code F) (Q : PUnit → sProp 𝕄) (M : Memref sig .tc .vmem S2x16x16x512 .bf16) (hM : M.IsWhole) (b : Fin 4) (lb : ℕ) (hb : (![0, 2, 0, 3] : Fin 4 → ℕ) b = lb)
    (O : CellTallies nD τ sig Unit) (hO : Above lb O) :
    iprop(records P K ∗ pending c b w (peer c j) ∗ owing c O ∗ ((handed P c (b, w, peer c j) ∗ passed c b w (peer c j) ∗ owing c O) -∗ runs c k Q))
      ⊢ runs c (waitRecv (plain c) M hM (arr b) w j k) Q := by
  exact recv_op P K c w j k Q M hM b lb hb O hO _ (dsem_eq b w (peer c j)).symm _ _

/-- Waiting for an own copy to have been read. -/
theorem sent_op (k : Code F) (Q : PUnit → sProp 𝕄) (M : Memref sig .tc .vmem S2x16x16x512 .bf16) (hM : M.IsWhole) (s : Fin 16) (a : Fin 4) (hb : (![0, 2, 0, 3] : Fin 4 → ℕ) a = 0) (q : DmaSem sig) (e : q = dsem a w (peer c j)) (hs hd) :
    iprop(records P K ∗ pending c a w (peer c j) ∗ owing c 0 ∗ ((handed P c (a, w, peer c j) ∗ passed c a w (peer c j) ∗ owing c 0) -∗ runs c k Q))
      ⊢ runs c (.op (.waitDma2 q (slotM M (sendOff w c) (sendOff_in w c)) (slotM sendM (sendOff w s) (sendOff_in w s)) hs hd) fun _ => k) Q := by
  subst e
  unfold owing
  iintro ⟨#HZ, ⟨Hc, Ha⟩, ⟨%W, HO⟩, Hk⟩
  ihave HB := (records_cell P K c a w (peer c j)) $$ HZ
  icases HB with ⟨#HI, #HR⟩
  ihave HM := (records_mayWait P K c (.dma (dsem a w (peer c j))) 0 0 ((lv_cell c a w (peer c j)).trans hb) (above_zero 0)) $$ HZ
  iapply (Rounds.wp_wait_rest_token 𝒱₀ ER (rd P) (c : Thread nD τ) none (κ := K (c, some (a, w, peer c j)))
      (wpE_waitDma2_eq 𝒱₀ (c : Thread nD τ) none Set.univ) (Set.mem_univ _) () (O := 0) (W := W) (R := 0) (m := 0) (T := ∅)
      (by rw [Nat.zero_add, credit_eq, expect_cell P c a w _ (peer_ne c j)])) $$ [Hc HO HM Ha]
  · isplitr; · iexact HI
    isplitl [Hc]; · rw [credit_eq]; iexact Hc
    isplitl [HO]; · iexact HO
    isplitl [HM]; · iexact HM
    iexact Ha
  iintro ⟨HO, Ha, -, Hp⟩
  ihave Hp := (Entails.of_eq (rest_cell P c a w _ (peer_ne c j))) $$ Hp
  iapply Hk
  isplitl [Hp]; · iexact Hp
  isplitl [Ha]; · iexact Ha
  iexists _; iexact HO
/-- The same of the kernel's own text. -/
theorem sent_step (k : Code F) (Q : PUnit → sProp 𝕄) (h3 : sendM.IsWhole) (M : Memref sig .tc .vmem S2x16x16x512 .bf16) (hM : M.IsWhole) (s : Fin 16) (a : Fin 4) (hb : (![0, 2, 0, 3] : Fin 4 → ℕ) a = 0) :
    iprop(records P K ∗ pending c a w (peer c j) ∗ owing c 0 ∗ ((handed P c (a, w, peer c j) ∗ passed c a w (peer c j) ∗ owing c 0) -∗ runs c k Q))
      ⊢ runs c (waitSend (plain c) sendM h3 M hM (arr a) w s j k) Q := by
  exact sent_op P K c w j k Q M hM s a hb _ (dsem_eq a w (peer c j)).symm _ _

/-- Waiting for all peers at the barrier. -/
theorem barrier_step (k : Code F) (Q : PUnit → sProp 𝕄) :
    iprop(records P K ∗ (cred (tallyAt (barCell c) () 15) ∗ atPos ER (barCell c) 0 ∅ 0) ∗ owing c (owed4 c)
        ∗ ((bigSep Finset.univ (fun j => landing (peer c j) c) ∗ atPos ER (barCell c) 1 ∅ 0 ∗ owing c (owed4 c)) -∗ runs c k Q))
      ⊢ runs c (.op (.semWait barS (15#32).toInt) fun _ => k) Q := by
  unfold owing
  iintro ⟨#HZ, ⟨Hc, Ha⟩, ⟨%W, HO⟩, Hk⟩
  ihave HB := (records_bar P K c) $$ HZ
  icases HB with ⟨#HI, #HR⟩
  ihave HM := (records_mayWait P K c (.reg barS) 1 (owed4 c) rfl (above4 c)) $$ HZ
  iapply (Rounds.wp_wait_rest_token 𝒱₀ ER (rd P) (c : Thread nD τ) none (κ := K (c, none))
      (wpE_semWait_eq 𝒱₀ (c : Thread nD τ) none Set.univ) (Set.mem_univ _) () (O := owed4 c) (W := W) (R := 0) (m := 0) (T := ∅)
      (by rw [expect_bar]; decide)) $$ [Hc HO HM Ha]
  · isplitr; · iexact HI
    isplitl [Hc]; · iexact Hc
    isplitl [HO]; · iexact HO
    isplitl [HM]; · iexact HM
    iexact Ha
  iintro ⟨HO, Ha, -, Hp⟩
  ihave Hp := (Entails.of_eq (rest_bar P c)) $$ Hp
  iapply Hk
  isplitl [Hp]; · iexact Hp
  isplitl [Ha]; · iexact Ha
  iexists _; iexact HO

end Steps

end Cert.KernelIdeal.Steps
-- ==== Proof.Waves.lean ====
/-
# The loops of the kernel's body

Each loop of the body, run through all fifteen peers: what device `c` puts in and what it has afterwards.
-/
module

public import proofs.«01_k».proof.Proof.Steps

@[expose] public section

noncomputable section

namespace Cert.KernelIdeal.Waves

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Loops Cert.KernelIdeal.Pieces Cert.KernelIdeal.Protocol Cert.KernelIdeal.Steps

variable {F : FTy → Type} [FloatOps F]

local notation "𝕄" => MT nD τ sig Unit (Elt F) ℕ UU ℕ

theorem over_sep (Φ Ψ : Fin 15 → sProp 𝕄) : over js (fun j => iprop(Φ j ∗ Ψ j)) = iprop(over js Φ ∗ over js Ψ) := by
  rw [over_js, over_js, over_js, bigSep_sep']

/-- One resource for each peer of device `c`. -/
abbrev peers (c : Dev nD) (Φ : Dev nD → sProp 𝕄) : sProp 𝕄 := over js fun j => Φ (peer c j)

/-! ## The shares of the finished slot -/

theorem all_mono {I : Type} [Fintype I] {Φ Ψ : I → sProp 𝕄} (h : ∀ i, Φ i ⊢ Ψ i) : (bigSep Finset.univ Φ : sProp 𝕄) ⊢ bigSep Finset.univ Ψ :=
  bigSep_mono fun i _ => h i

theorem slot_deal (c : Dev nD) (w : Fin 2) (v : Slot F) :
    (slot sendM c w 0 fullShare v : sProp 𝕄)
      ⊢ iprop(slot sendM c w 0 (Transfers.shareDrop fullShare 15) v ∗ over js fun j => slot sendM c w 0 (readShare j.val) v) := by
  rw [over_js]
  unfold slot owns
  iintro ⟨%f, %hf, H⟩
  ihave H := (Transfers.pointsTo_toks_split fullShare 15) $$ H
  have h1 : ∀ i : Fin 15, ((sendM.slice (slotRect (sendOff w 0) (sendOff_in w 0)) (fun _ => rfl)).view.loc (c : Thread nD τ)
    ↦[(sendM.slice (slotRect (sendOff w 0) (sendOff_in w 0)) (fun _ => rfl)).view.set]{Transfers.shareTok fullShare 15 i} f : sProp 𝕄) ⊢ (iprop(∃ f, ⌜(sendM.slice (slotRect (sendOff w 0) (sendOff_in w 0)) (fun _ => rfl)).view.read (Elt F) f = v⌝ ∗ ((sendM.slice (slotRect (sendOff w 0) (sendOff_in w 0)) (fun _ => rfl)).view.loc (c : Thread nD τ)
    ↦[(sendM.slice (slotRect (sendOff w 0) (sendOff_in w 0)) (fun _ => rfl)).view.set]{Transfers.shareTok fullShare 15 i} f : sProp 𝕄)) : sProp 𝕄) := fun i => by
    iintro H; iexists f; isplitr; · ipureintro; exact hf
    iexact H
  have hm := all_mono h1
  icases H with ⟨H, Hs⟩
  isplitl [H]
  · iexists f; isplitr; · ipureintro; exact hf
    iexact H
  iapply hm; iexact Hs

/-- Two readings of the same numbers are the same ownership. -/
theorem owns_same {sp : Space} {sh : Shape} {e : EltTy} (m : Memref sig .tc sp sh e) (c : Dev nD) (q : PosShare TreeShare)
    (f g : m.view.ty.Contents (Elt F)) (h : m.view.read (Elt F) f = m.view.read (Elt F) g) :
    (m.view.loc (c : Thread nD τ) ↦[m.view.set]{q} f : sProp 𝕄) = (m.view.loc (c : Thread nD τ) ↦[m.view.set]{q} g) := by
  refine pointsTo_congr fun i hi => ?_
  obtain ⟨x, -, rfl⟩ := Finset.mem_map.mp hi
  exact (cast_bijective (congrArg (Elt F) m.view.elt_eq)).injective (congrFun h x)

theorem slot_undeal (c : Dev nD) (w : Fin 2) (v : Slot F) :
    iprop(slot sendM c w 0 (Transfers.shareDrop fullShare 15) v ∗ over js fun j => slot sendM c w 0 (readShare j.val) v)
      ⊢ (slot sendM c w 0 fullShare v : sProp 𝕄) := by
  rw [over_js]
  unfold slot owns
  iintro ⟨⟨%f, %hf, H⟩, Hs⟩
  have h1 : ∀ i : Fin 15, (iprop(∃ f, ⌜(sendM.slice (slotRect (sendOff w 0) (sendOff_in w 0)) (fun _ => rfl)).view.read (Elt F) f = v⌝ ∗ ((sendM.slice (slotRect (sendOff w 0) (sendOff_in w 0)) (fun _ => rfl)).view.loc (c : Thread nD τ)
    ↦[(sendM.slice (slotRect (sendOff w 0) (sendOff_in w 0)) (fun _ => rfl)).view.set]{Transfers.shareTok fullShare 15 i} f : sProp 𝕄)) : sProp 𝕄) ⊢ ((sendM.slice (slotRect (sendOff w 0) (sendOff_in w 0)) (fun _ => rfl)).view.loc (c : Thread nD τ)
    ↦[(sendM.slice (slotRect (sendOff w 0) (sendOff_in w 0)) (fun _ => rfl)).view.set]{Transfers.shareTok fullShare 15 i} f : sProp 𝕄) := fun i => by
    iintro ⟨%g, %hg, H⟩
    rw [owns_same _ c _ f g (hf.trans hg.symm)]
    iexact H
  have hm := all_mono h1
  iexists f; isplitr; · ipureintro; exact hf
  iapply (Transfers.pointsTo_toks_join fullShare 15)
  isplitl [H]; · iexact H
  iapply hm; iexact Hs

/-! ## The loops -/

section Loops
variable (P : Dev nD → S512x512.Idx → Elt F .f32) (K : Cells → ℕ) (c : Dev nD) (w : Fin 2)

theorem signals_run (k : Code F) (Q : PUnit → sProp 𝕄) :
    iprop(records P K ∗ over js (fun j => dutyTok ER (barCell (peer c j)) 0 j.rev) ∗ peers c (fun p => landing c p) ∗ owing c (owed5 c)
        ∗ (owing c (owed4 c) -∗ runs c k Q))
      ⊢ runs c (signals (plain c) k) Q := by
  have h := loop c Q (records P K) (fun j => iprop(dutyTok ER (barCell (peer c j)) 0 j.rev ∗ landing c (peer c j))) (fun _ => iprop(emp))
    (fun l => owing c (debt (payBar c) (owed4 c) l)) _ (fun j l k => signal_step P K c j k Q (debt (payBar c) (owed4 c) l)) js k
  rw [over_sep] at h
  refine BIBase.Entails.trans ?_ h
  iintro ⟨#HZ, Ht, Hl, HO, Hk⟩
  isplitr; · iexact HZ
  isplitl [Ht Hl]
  · isplitl [Ht]; · iexact Ht
    iexact Hl
  isplitl [HO]; · iexact HO
  iintro ⟨-, HO⟩
  iapply Hk; iexact HO

theorem casts_run (h3 : sendM.IsWhole) (k : Code F) (Q : PUnit → sProp 𝕄) :
    iprop(peers c (fun p => chunk c w p (chunkOf (P c) w p)) ∗ over js (fun j => slotAny sendM c w j.succ)
        ∗ ((peers c (fun p => chunk c w p (chunkOf (P c) w p)) ∗ over js (fun j => slot sendM c w j.succ fullShare (part P c w (peer c j)))) -∗ runs c k Q))
      ⊢ runs c (casts (plain c) outM sendM h3 w k) Q := by
  have h := loop c Q iprop(emp) (fun j => iprop(chunk c w (peer c j) (chunkOf (P c) w (peer c j)) ∗ slotAny sendM c w j.succ))
    (fun j => iprop(chunk c w (peer c j) (chunkOf (P c) w (peer c j)) ∗ slot sendM c w j.succ fullShare (part P c w (peer c j))))
    (fun _ => iprop(emp)) (fun j k => loadRows outM (rowsOff w (peer c j)) (rowsOff_in w (peer c j)) fun v => storeSlot sendM h3 w j.succ (castPay v) k) (fun j l k => by
      iintro ⟨-, ⟨Hc, Hs⟩, -, Hk⟩
      iapply (load_rows c w (peer c j))
      isplitl [Hc]; · iexact Hc
      iintro Hc
      iapply (store_slot h3 c w j.succ)
      isplitl [Hs]; · iexact Hs
      iintro Hs
      iapply Hk
      isplitl [Hc Hs]
      · isplitl [Hc]; · iexact Hc
        iexact Hs
      iempintro) js k
  rw [over_sep, over_sep] at h
  refine BIBase.Entails.trans ?_ h
  iintro ⟨Hc, Hs, Hk⟩
  isplitr; · iempintro
  isplitl [Hc Hs]
  · isplitl [Hc]; · iexact Hc
    iexact Hs
  isplitr; · iempintro
  iintro ⟨H, -⟩
  iapply Hk; iexact H

/-- A loop of copies to all peers. -/
theorem sends_run (h3 : sendM.IsWhole) (M : Memref sig .tc .vmem S2x16x16x512 .bf16) (hM : M.IsWhole) (a b : Fin 4) (s : Fin 15 → Fin 16) (q : Fin 15 → PosShare TreeShare) (v : Fin 15 → Slot F)
    (h₁ : ∀ j, slot sendM c w (s j) (q j) (v j) ⊢ handed P c (a, w, peer c j)) (h₂ : ∀ j, slot M (peer c j) w c fullShare (v j) ⊢ handed P (peer c j) (b, w, c))
    (O : CellTallies nD τ sig Unit) (k : Code F) (Q : PUnit → sProp 𝕄) :
    iprop(records P K ∗ over js (fun j => slot sendM c w (s j) (q j) (v j)) ∗ peers c (fun p => slotAny M p w c)
        ∗ peers c (fun p => dutyTok ER (cell c a w p) 0 0) ∗ peers c (fun p => dutyTok ER (cell p b w c) 0 0) ∗ owing c (debt (payCell c b w) O js)
        ∗ ((peers c (fun p => cred (tallyAt (cell c a w p) () N)) ∗ owing c O) -∗ runs c k Q))
      ⊢ runs c (js.foldr (fun j k => sendSlot (plain c) sendM h3 M hM (arr a) (arr b) w (s j) j k) k) Q := by
  have h := loop c Q (records P K) (fun j => iprop(slot sendM c w (s j) (q j) (v j) ∗ slotAny M (peer c j) w c ∗ dutyTok ER (cell c a w (peer c j)) 0 0 ∗ dutyTok ER (cell (peer c j) b w c) 0 0))
    (fun j => cred (tallyAt (cell c a w (peer c j)) () N)) (fun l => owing c (debt (payCell c b w) O l))
    (fun j k => sendSlot (plain c) sendM h3 M hM (arr a) (arr b) w (s j) j k)
    (fun j l k => send_step P K c w j k Q h3 M hM a b (s j) (q j) (v j) (h₁ j) (h₂ j) (debt (payCell c b w) O l)) js k
  rw [over_sep, over_sep, over_sep] at h
  refine BIBase.Entails.trans ?_ h
  iintro ⟨#HZ, Hs, Hd, Ht, Ht', HO, Hk⟩
  isplitr; · iexact HZ
  isplitl [Hs Hd Ht Ht']
  · isplitl [Hs]; · iexact Hs
    isplitl [Hd]; · iexact Hd
    isplitl [Ht]; · iexact Ht
    iexact Ht'
  isplitl [HO]; · iexact HO
  iexact Hk

theorem scatters_run (h3 : sendM.IsWhole) (h4 : partM.IsWhole) (O : CellTallies nD τ sig Unit) (k : Code F) (Q : PUnit → sProp 𝕄) :
    iprop(records P K ∗ over js (fun j => slot sendM c w j.succ fullShare (part P c w (peer c j))) ∗ peers c (fun p => slotAny partM p w c)
        ∗ peers c (fun p => dutyTok ER (cell c 0 w p) 0 0) ∗ peers c (fun p => dutyTok ER (cell p 1 w c) 0 0) ∗ owing c (debt (payCell c 1 w) O js)
        ∗ ((peers c (fun p => cred (tallyAt (cell c 0 w p) () N)) ∗ owing c O) -∗ runs c k Q))
      ⊢ runs c (scatters (plain c) sendM h3 partM h4 (arr 0) (arr 1) w k) Q :=
  sends_run P K c w h3 partM h4 0 1 (fun j => j.succ) (fun _ => fullShare) (fun j => part P c w (peer c j))
    (fun j => by show _ ⊢ slotAny sendM c w (gap c (peer c j)); rw [gap_peer]; exact slot_any _ _ _ _ _) (fun j => BIBase.Entails.refl) O k Q

theorem gather_sends_run (h3 : sendM.IsWhole) (h5 : doneM.IsWhole) (O : CellTallies nD τ sig Unit) (k : Code F) (Q : PUnit → sProp 𝕄) :
    iprop(records P K ∗ over js (fun j => slot sendM c w 0 (readShare j.val) (resb P c w)) ∗ peers c (fun p => slotAny doneM p w c)
        ∗ peers c (fun p => dutyTok ER (cell c 2 w p) 0 0) ∗ peers c (fun p => dutyTok ER (cell p 3 w c) 0 0) ∗ owing c (debt (payCell c 3 w) O js)
        ∗ ((peers c (fun p => cred (tallyAt (cell c 2 w p) () N)) ∗ owing c O) -∗ runs c k Q))
      ⊢ runs c (js.foldr (fun j k => sendSlot (plain c) sendM h3 doneM h5 (arr 2) (arr 3) w 0 j k) k) Q :=
  sends_run P K c w h3 doneM h5 2 3 (fun _ => 0) (fun j => readShare j.val) (fun _ => resb P c w)
    (fun j => by show _ ⊢ slot sendM c w 0 (readShare ((gap c (peer c j)).val - 1)) (resb P c w); rw [gap_peer]; exact BIBase.Entails.refl)
    (fun j => BIBase.Entails.refl) O k Q

/-- Collecting the peers' parts and adding them up. -/
theorem reduces_run (h4 : partM.IsWhole) (O : CellTallies nD τ sig Unit) (hO : Above 2 O) (fin : FVec F S16x512 .f32 → Code F) (acc : FVec F S16x512 .f32) (Q : PUnit → sProp 𝕄) :
    iprop(records P K ∗ peers c (pending c 1 w) ∗ owing c O
        ∗ ((peers c (fun p => slotAny partM c w p) ∗ peers c (passed c 1 w) ∗ owing c O) -∗ runs c (fin (js.foldl (fun a j => addf a (wide (part P (peer c j) w c))) acc)) Q))
      ⊢ runs c (reduces (plain c) partM h4 (arr 1) w fin acc) Q := by
  have h := loop_acc c Q (records P K) (fun j => pending c 1 w (peer c j)) (fun j => iprop(slotAny partM c w (peer c j) ∗ passed c 1 w (peer c j)))
    (fun _ => owing c O) (fun j k acc => waitRecv (plain c) partM h4 (arr 1) w j (loadSlot partM (sendOff w (peer c j)) (sendOff_in w (peer c j)) fun v => k (addf acc (wide v))))
    (fun a j => addf a (wide (part P (peer c j) w c))) (fun j l k a => by
      iintro ⟨#HZ, Hp, HO, Hk⟩
      iapply (recv_step P K c w j _ Q partM h4 1 2 rfl O hO)
      isplitr; · iexact HZ
      isplitl [Hp]; · iexact Hp
      isplitl [HO]; · iexact HO
      rw [show handed P c (1, w, peer c j) = slot partM c w (peer c j) fullShare (part P (peer c j) w c) from rfl]
      iintro ⟨Hs, Ha, HO⟩
      iapply (load_slot partM c w (peer c j) fullShare (part P (peer c j) w c))
      isplitl [Hs]; · iexact Hs
      iintro Hs
      iapply Hk
      isplitl [Hs Ha]
      · isplitl [Hs]; · iapply (slot_any partM c w (peer c j)); iexact Hs
        iexact Ha
      iexact HO) js fin acc
  rw [over_sep (fun j => slotAny partM c w (peer c j)) (fun j => passed c 1 w (peer c j))] at h
  refine BIBase.Entails.trans ?_ h
  iintro ⟨#HZ, Hp, HO, Hk⟩
  isplitr; · iexact HZ
  isplitl [Hp]; · iexact Hp
  isplitl [HO]; · iexact HO
  iintro ⟨⟨Hs, Ha⟩, HO⟩
  iapply Hk
  isplitl [Hs]; · iexact Hs
  isplitl [Ha]; · iexact Ha
  iexact HO

/-- Reducing the own chunk, applying the activation, and sending the result to all peers. -/
theorem reduceWave_run (h3 : sendM.IsWhole) (h4 : partM.IsWhole) (h5 : doneM.IsWhole) (O : CellTallies nD τ sig Unit) (hO : Above 2 (debt (payCell c 3 w) O js)) (k : Code F) (Q : PUnit → sProp 𝕄) :
    iprop(records P K ∗ chunk c w c (chunkOf (P c) w c) ∗ slotAny sendM c w 0 ∗ peers c (pending c 1 w) ∗ peers c (fun p => slotAny doneM p w c)
        ∗ peers c (fun p => dutyTok ER (cell c 2 w p) 0 0) ∗ peers c (fun p => dutyTok ER (cell p 3 w c) 0 0) ∗ owing c (debt (payCell c 3 w) O js)
        ∗ ((chunk c w c (res P c w) ∗ slot sendM c w 0 (Transfers.shareDrop fullShare 15) (resb P c w) ∗ peers c (fun p => slotAny partM c w p) ∗ peers c (passed c 1 w)
            ∗ peers c (fun p => cred (tallyAt (cell c 2 w p) () N)) ∗ owing c O) -∗ runs c k Q))
      ⊢ runs c (reduceWave (plain c) outM sendM h3 partM h4 doneM h5 (arr 1) (arr 2) (arr 3) w k) Q := by
  unfold reduceWave
  iintro ⟨#HZ, Hc, Hs, Hp, Hd, Ht, Ht', HO, Hk⟩
  iapply (load_rows c w c)
  isplitl [Hc]; · iexact Hc
  iintro Hc
  iapply (reduces_run P K c w h4 _ hO)
  isplitr; · iexact HZ
  isplitl [Hp]; · iexact Hp
  isplitl [HO]; · iexact HO
  rw [show act (js.foldl (fun a j => addf a (wide (part P (peer c j) w c))) (shapeCast S16x512 (chunkOf (P c) w c) shapeCasts_S16x512_S16x512)) = res P c w from rfl,
    show shapeCast S1x1x16x512 (truncf .bf16 (res P c w) bitsLt_bf16_f32) shapeCasts_S16x512_S1x1x16x512 = resb P c w from rfl]
  iintro ⟨Hl, Ha, HO⟩
  iapply (store_rows c w c)
  isplitl [Hc]; · iexact Hc
  iintro Hc
  iapply (store_slot h3 c w 0)
  isplitl [Hs]; · iexact Hs
  iintro Hs
  ihave Hs := (slot_deal c w (resb P c w)) $$ Hs
  icases Hs with ⟨Hs, Hss⟩
  iapply (gather_sends_run P K c w h3 h5 O)
  isplitr; · iexact HZ
  isplitl [Hss]; · iexact Hss
  isplitl [Hd]; · iexact Hd
  isplitl [Ht]; · iexact Ht
  isplitl [Ht']; · iexact Ht'
  isplitl [HO]; · iexact HO
  iintro ⟨Hcr, HO⟩
  iapply Hk
  isplitl [Hc]; · iexact Hc
  isplitl [Hs]; · iexact Hs
  isplitl [Hl]; · iexact Hl
  isplitl [Ha]; · iexact Ha
  isplitl [Hcr]; · iexact Hcr
  iexact HO

/-- Collecting the peers' results. -/
theorem gathers_run (h5 : doneM.IsWhole) (k : Code F) (Q : PUnit → sProp 𝕄) :
    iprop(records P K ∗ peers c (pending c 3 w) ∗ peers c (fun p => chunk c w p (chunkOf (P c) w p)) ∗ owing c 0
        ∗ ((peers c (fun p => slotAny doneM c w p) ∗ peers c (passed c 3 w) ∗ peers c (fun p => chunk c w p (wide (resb P p w))) ∗ owing c 0) -∗ runs c k Q))
      ⊢ runs c (gathers (plain c) outM doneM h5 (arr 3) w k) Q := by
  have h := loop c Q (records P K) (fun j => iprop(pending c 3 w (peer c j) ∗ chunk c w (peer c j) (chunkOf (P c) w (peer c j))))
    (fun j => iprop(slotAny doneM c w (peer c j) ∗ passed c 3 w (peer c j) ∗ chunk c w (peer c j) (wide (resb P (peer c j) w))))
    (fun _ => owing c 0) (fun j k => waitRecv (plain c) doneM h5 (arr 3) w j (loadSlot doneM (sendOff w (peer c j)) (sendOff_in w (peer c j)) fun v =>
      storeRows outM (rowsOff w (peer c j)) (rowsOff_in w (peer c j)) (wide v) k)) (fun j l k => by
      iintro ⟨#HZ, ⟨Hp, Hc⟩, HO, Hk⟩
      iapply (recv_step P K c w j _ Q doneM h5 3 3 rfl 0 (above_zero 3))
      isplitr; · iexact HZ
      isplitl [Hp]; · iexact Hp
      isplitl [HO]; · iexact HO
      rw [show handed P c (3, w, peer c j) = slot doneM c w (peer c j) fullShare (resb P (peer c j) w) from rfl]
      iintro ⟨Hs, Ha, HO⟩
      iapply (load_slot doneM c w (peer c j) fullShare (resb P (peer c j) w))
      isplitl [Hs]; · iexact Hs
      iintro Hs
      iapply (store_rows c w (peer c j))
      isplitl [Hc]; · iexact Hc
      iintro Hc
      iapply Hk
      isplitl [Hs Ha Hc]
      · isplitl [Hs]; · iapply (slot_any doneM c w (peer c j)); iexact Hs
        isplitl [Ha]; · iexact Ha
        iexact Hc
      iexact HO) js k
  rw [over_sep (fun j => pending c 3 w (peer c j)) (fun j => chunk c w (peer c j) (chunkOf (P c) w (peer c j))), over_sep (fun j => slotAny doneM c w (peer c j)) (fun j => iprop(passed c 3 w (peer c j) ∗ chunk c w (peer c j) (wide (resb P (peer c j) w)))), over_sep (fun j => passed c 3 w (peer c j)) (fun j => chunk c w (peer c j) (wide (resb P (peer c j) w)))] at h
  refine BIBase.Entails.trans ?_ h
  iintro ⟨#HZ, Hp, Hc, HO, Hk⟩
  isplitr; · iexact HZ
  isplitl [Hp Hc]
  · isplitl [Hp]; · iexact Hp
    iexact Hc
  isplitl [HO]; · iexact HO
  iintro ⟨⟨Hs, Ha, Hc⟩, HO⟩
  iapply Hk
  isplitl [Hs]; · iexact Hs
  isplitl [Ha]; · iexact Ha
  isplitl [Hc]; · iexact Hc
  iexact HO

/-- A loop of waits for the own copies to all peers. -/
theorem sents_run (h3 : sendM.IsWhole) (M : Memref sig .tc .vmem S2x16x16x512 .bf16) (hM : M.IsWhole) (a : Fin 4) (ha : (![0, 2, 0, 3] : Fin 4 → ℕ) a = 0) (s : Fin 15 → Fin 16)
    (B : Fin 15 → sProp 𝕄) (hB : ∀ j, handed P c (a, w, peer c j) ⊢ B j) (k : Code F) (Q : PUnit → sProp 𝕄) :
    iprop(records P K ∗ peers c (pending c a w) ∗ owing c 0 ∗ ((over js B ∗ peers c (passed c a w) ∗ owing c 0) -∗ runs c k Q))
      ⊢ runs c (js.foldr (fun j k => waitSend (plain c) sendM h3 M hM (arr a) w (s j) j k) k) Q := by
  have h := loop c Q (records P K) (fun j => pending c a w (peer c j)) (fun j => iprop(B j ∗ passed c a w (peer c j)))
    (fun _ => owing c 0) (fun j k => waitSend (plain c) sendM h3 M hM (arr a) w (s j) j k) (fun j l k => by
      iintro ⟨#HZ, Hp, HO, Hk⟩
      iapply (sent_step P K c w j k Q h3 M hM (s j) a ha)
      isplitr; · iexact HZ
      isplitl [Hp]; · iexact Hp
      isplitl [HO]; · iexact HO
      iintro ⟨Hs, Ha, HO⟩
      iapply Hk
      isplitl [Hs Ha]
      · isplitl [Hs]; · iapply (hB j); iexact Hs
        iexact Ha
      iexact HO) js k
  rw [over_sep B (fun j => passed c a w (peer c j))] at h
  refine BIBase.Entails.trans ?_ h
  iintro ⟨#HZ, Hp, HO, Hk⟩
  isplitr; · iexact HZ
  isplitl [Hp]; · iexact Hp
  isplitl [HO]; · iexact HO
  iintro ⟨⟨Hs, Ha⟩, HO⟩
  iapply Hk
  isplitl [Hs]; · iexact Hs
  isplitl [Ha]; · iexact Ha
  iexact HO

theorem drainScatter_run (h3 : sendM.IsWhole) (h4 : partM.IsWhole) (k : Code F) (Q : PUnit → sProp 𝕄) :
    iprop(records P K ∗ peers c (pending c 0 w) ∗ owing c 0
        ∗ ((over js (fun j => slotAny sendM c w j.succ) ∗ peers c (passed c 0 w) ∗ owing c 0) -∗ runs c k Q))
      ⊢ runs c (drainScatter (plain c) sendM h3 partM h4 (arr 0) w k) Q :=
  sents_run P K c w h3 partM h4 0 rfl (fun j => j.succ) (fun j => slotAny sendM c w j.succ)
    (fun j => by show slotAny sendM c w (gap c (peer c j)) ⊢ _; rw [gap_peer]) k Q

theorem drainGather_run (h3 : sendM.IsWhole) (h5 : doneM.IsWhole) (k : Code F) (Q : PUnit → sProp 𝕄) :
    iprop(records P K ∗ peers c (pending c 2 w) ∗ owing c 0
        ∗ ((over js (fun j => slot sendM c w 0 (readShare j.val) (resb P c w)) ∗ peers c (passed c 2 w) ∗ owing c 0) -∗ runs c k Q))
      ⊢ runs c (drainGather (plain c) sendM h3 doneM h5 (arr 2) w k) Q :=
  sents_run P K c w h3 doneM h5 2 rfl (fun _ => 0) (fun j => slot sendM c w 0 (readShare j.val) (resb P c w))
    (fun j => by show slot sendM c w 0 (readShare ((gap c (peer c j)).val - 1)) (resb P c w) ⊢ _; rw [gap_peer]; exact BIBase.Entails.refl) k Q

end Loops

end Cert.KernelIdeal.Waves
-- ==== Proof.Body.lean ====
/-
# The body of the kernel

What device `c` starts from, what it ends with, and the run of the body in between.
-/
module

public import proofs.«01_k».proof.Proof.Waves

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Loops Cert.KernelIdeal.Pieces Cert.KernelIdeal.Protocol Cert.KernelIdeal.Steps
open Cert.KernelIdeal.Waves

variable {F : FTy → Type} [FloatOps F]

local notation "𝕄" => MT nD τ sig Unit (Elt F) ℕ UU ℕ

/-! ## One and the fifteen others -/

/-- Sixteen resources, of which `z` is one and the fifteen others are numbered by `f`. -/
theorem split16 (Φ : Fin 16 → sProp 𝕄) (z : Fin 16) (f : Fin 15 → Fin 16) (hf : ∀ j j', f j = f j' → j = j') (hz : ∀ j, f j ≠ z) (hs : ∀ d, d ≠ z → ∃ j, f j = d) :
    bigSep Finset.univ Φ = iprop(Φ z ∗ over js fun j => Φ (f j)) := by
  have he : (Finset.univ : Finset (Fin 16)).erase z = Finset.univ.map ⟨f, fun j j' => hf j j'⟩ := by
    ext d
    simp only [Finset.mem_erase, Finset.mem_univ, and_true, Finset.mem_map, true_and, Function.Embedding.coeFn_mk]
    exact ⟨hs d, fun ⟨j, hj⟩ => hj ▸ hz j⟩
  rw [bigSep_univ_split z, he, bigSep_map, over_js]
  rfl

theorem own_and_peers (c : Dev nD) (Φ : Fin 16 → sProp 𝕄) : bigSep Finset.univ Φ = iprop(Φ c ∗ peers c Φ) :=
  split16 Φ c (peer c) (peer_injective c) (peer_ne c) (peer_exists c)
theorem first_and_next (Φ : Fin 16 → sProp 𝕄) : bigSep Finset.univ Φ = iprop(Φ 0 ∗ over js fun j => Φ j.succ) :=
  split16 Φ 0 Fin.succ (fun _ _ h => Fin.succ_injective _ h) Fin.succ_ne_zero (fun d h => ⟨d.pred h, Fin.succ_pred d h⟩)
theorem both_waves (Φ : Fin 2 × Fin 16 → sProp 𝕄) :
    bigSep Finset.univ Φ = iprop((bigSep Finset.univ fun s => Φ (0, s)) ∗ (bigSep Finset.univ fun s => Φ (1, s))) := by
  rw [bigSep_univ_prod, bigSep_fin_two]; rfl

/-- A buffer of slots, cut by waves and by one slot and the others. -/
theorem cut_own (c : Dev nD) (M : Memref sig .tc .vmem S2x16x16x512 .bf16) (hM : M.view.set = Finset.univ) (f : M.view.ty.Contents (Elt F)) :
    (M.view.loc (c : Thread nD τ) ↦{fullShare} f : sProp 𝕄)
      ⊢ iprop((slotAny M c 0 c ∗ peers c (slotAny M c 0)) ∗ (slotAny M c 1 c ∗ peers c (slotAny M c 1))) :=
  (cut_slots c M hM f).trans (Entails.of_eq (by rw [both_waves, own_and_peers c, own_and_peers c]))
theorem cut_first (c : Dev nD) (M : Memref sig .tc .vmem S2x16x16x512 .bf16) (hM : M.view.set = Finset.univ) (f : M.view.ty.Contents (Elt F)) :
    (M.view.loc (c : Thread nD τ) ↦{fullShare} f : sProp 𝕄)
      ⊢ iprop((slotAny M c 0 0 ∗ over js fun j => slotAny M c 0 j.succ) ∗ (slotAny M c 1 0 ∗ over js fun j => slotAny M c 1 j.succ)) :=
  (cut_slots c M hM f).trans (Entails.of_eq (by rw [both_waves, first_and_next, first_and_next]))
theorem join_own (c : Dev nD) (M : Memref sig .tc .vmem S2x16x16x512 .bf16) (hM : M.view.set = Finset.univ) :
    (iprop((slotAny M c 0 c ∗ peers c (slotAny M c 0)) ∗ (slotAny M c 1 c ∗ peers c (slotAny M c 1))) : sProp 𝕄)
      ⊢ iprop(∃ f : M.view.ty.Contents (Elt F), M.view.loc (c : Thread nD τ) ↦{fullShare} f) :=
  (Entails.of_eq (by rw [both_waves, own_and_peers c, own_and_peers c])).trans (join_slots c M hM)
theorem join_first (c : Dev nD) (M : Memref sig .tc .vmem S2x16x16x512 .bf16) (hM : M.view.set = Finset.univ) :
    (iprop((slotAny M c 0 0 ∗ over js fun j => slotAny M c 0 j.succ) ∗ (slotAny M c 1 0 ∗ over js fun j => slotAny M c 1 j.succ)) : sProp 𝕄)
      ⊢ iprop(∃ f : M.view.ty.Contents (Elt F), M.view.loc (c : Thread nD τ) ↦{fullShare} f) :=
  (Entails.of_eq (by rw [both_waves, first_and_next, first_and_next])).trans (join_slots c M hM)

/-- The slots into which the others copy, dealt to the others. -/
theorem landings (c : Dev nD) (d e : Dev nD → Dev nD) :
    (over js fun j => landing (F := F) (d (peer c j)) (e (peer c j)))
      = iprop((peers c (fun p => slotAny partM (d p) 0 (e p)) ∗ peers c (fun p => slotAny partM (d p) 1 (e p)))
          ∗ (peers c (fun p => slotAny doneM (d p) 0 (e p)) ∗ peers c (fun p => slotAny doneM (d p) 1 (e p)))) := by
  unfold landing peers
  rw [over_sep, over_sep, over_sep]

/-! ## The result -/

section Result
variable (P : Dev nD → S512x512.Idx → Elt F .f32)

/-- Which chunk a row is in, and which of its rows it is. -/
def waveOf (i : S512x512.Idx) : Fin 2 := ⟨(i 0).val / 16 % 2, Nat.mod_lt _ (by decide)⟩
def devOf (i : S512x512.Idx) : Dev nD := ⟨(i 0).val / 32, by have h : (i 0).val < 512 := (i 0).isLt; show _ < 16; omega⟩
def inChunk (i : S512x512.Idx) : S16x512.Idx := fun a => match a with
  | ⟨0, _⟩ => (⟨(i 0).val % 16, Nat.mod_lt _ (by decide)⟩ : Fin 16)
  | ⟨1, _⟩ => (⟨(i 1).val, (i 1).isLt⟩ : Fin 512)

/-- Device `c`'s whole result. -/
def whole (c : Dev nD) : S512x512.Idx → Elt F .f32 := fun i => outChunk P c (waveOf i) (devOf i) (inChunk i)

theorem emb_row (w : Fin 2) (e : Dev nD) (x : S16x512.Idx) : ((rowsR (w, e)).emb x 0).val = 32 * e.val + 16 * w.val + (x 0).val := by
  show 32 * e.val + 16 * w.val + 1 * (x 0).val = _
  omega
theorem emb_column (w : Fin 2) (e : Dev nD) (x : S16x512.Idx) : ((rowsR (w, e)).emb x 1).val = (x 1).val := by
  show 0 + 1 * (x 1).val = _
  omega

theorem waveOf_emb (w : Fin 2) (e : Dev nD) (x : S16x512.Idx) : waveOf ((rowsR (w, e)).emb x) = w := by
  have h : (x 0).val < 16 := (x 0).isLt
  refine Fin.ext ?_
  show ((rowsR (w, e)).emb x 0).val / 16 % 2 = _
  rw [emb_row]; omega
theorem devOf_emb (w : Fin 2) (e : Dev nD) (x : S16x512.Idx) : devOf ((rowsR (w, e)).emb x) = e := by
  have h : (x 0).val < 16 := (x 0).isLt
  refine Fin.ext ?_
  show ((rowsR (w, e)).emb x 0).val / 32 = _
  rw [emb_row]; omega
theorem inChunk_emb (w : Fin 2) (e : Dev nD) (x : S16x512.Idx) : inChunk ((rowsR (w, e)).emb x) = x := by
  have h : (x 0).val < 16 := (x 0).isLt
  funext a
  fin_cases a
  · refine Fin.ext ?_
    show ((rowsR (w, e)).emb x 0).val % 16 = (x 0).val
    rw [emb_row]; omega
  · refine Fin.ext ?_
    show ((rowsR (w, e)).emb x 1).val = (x 1).val
    rw [emb_column]

theorem whole_chunk (c : Dev nD) (w : Fin 2) (e : Dev nD) : chunkOf (whole P c) w e = outChunk P c w e := by
  funext x
  show outChunk P c (waveOf ((rowsR (w, e)).emb x)) (devOf ((rowsR (w, e)).emb x)) (inChunk ((rowsR (w, e)).emb x)) = _
  rw [waveOf_emb, devOf_emb, inChunk_emb]

/-- The product cut into chunks, its own apart; -/
theorem cut_result (c : Dev nD) (X : S512x512.Idx → Elt F .f32) :
    (owns (c : Thread nD τ) outM fullShare X : sProp 𝕄)
      ⊢ iprop((chunk c 0 c (chunkOf X 0 c) ∗ peers c (fun p => chunk c 0 p (chunkOf X 0 p))) ∗ (chunk c 1 c (chunkOf X 1 c) ∗ peers c (fun p => chunk c 1 p (chunkOf X 1 p)))) :=
  (cut_chunks c X).trans (Entails.of_eq (by rw [both_waves, own_and_peers c, own_and_peers c]))

theorem finished (c : Dev nD) (w : Fin 2) :
    (iprop(chunk c w c (res P c w) ∗ peers c (fun p => chunk c w p (wide (resb P p w)))) : sProp 𝕄) = bigSep Finset.univ fun e => chunk c w e (chunkOf (whole P c) w e) := by
  rw [own_and_peers c]
  have h1 : chunkOf (whole P c) w c = res P c w := by rw [whole_chunk]; exact if_pos rfl
  have h2 (j : Fin 15) : chunkOf (whole P c) w (peer c j) = wide (resb P (peer c j) w) := by rw [whole_chunk]; exact if_neg (peer_ne c j)
  unfold peers
  simp only [h1, h2]
/-- and the finished chunks joined. -/
theorem join_result (c : Dev nD) :
    (iprop((chunk c 0 c (res P c 0) ∗ peers c (fun p => chunk c 0 p (wide (resb P p 0)))) ∗ (chunk c 1 c (res P c 1) ∗ peers c (fun p => chunk c 1 p (wide (resb P p 1))))) : sProp 𝕄)
      ⊢ owns (c : Thread nD τ) outM fullShare (whole P c) := by
  rw [finished, finished]
  exact (Entails.of_eq (both_waves fun t => chunk c t.1 t.2 (chunkOf (whole P c) t.1 t.2)).symm).trans (join_chunks c (whole P c))

end Result

/-! ## The product -/

theorem origin : (![0, 0] : Fin 2 → Nat) = fun _ => 0 := funext fun a => by fin_cases a <;> rfl

theorem product_run (c : Dev nD) (x : S512x256.Idx → Elt F .f32) (y : S256x512.Idx → Elt F .f32) (o : S512x512.Idx → Elt F .f32) (k : Code F) (Q : PUnit → sProp 𝕄) :
    iprop(owns (c : Thread nD τ) (Memref.whole cc0_stg0_0) fullShare x ∗ owns (c : Thread nD τ) (Memref.whole cc0_stg1_0) fullShare y ∗ owns (c : Thread nD τ) outM fullShare o
        ∗ ((owns (c : Thread nD τ) (Memref.whole cc0_stg0_0) fullShare x ∗ owns (c : Thread nD τ) (Memref.whole cc0_stg1_0) fullShare y ∗ owns (c : Thread nD τ) outM fullShare (k0_pay1 x y)) -∗ runs c k Q))
      ⊢ runs c (product (Memref.whole cc0_stg0_0) (Memref.whole cc0_stg1_0) outM k) Q := by
  unfold product
  rw [owns_whole, owns_whole, owns_whole, owns_whole]
  iintro ⟨Hx, Hy, Ho, Hk⟩
  iapply (wp_load 𝒱₀ (c : Thread nD τ) none Set.univ (m := Memref.whole cc0_stg0_0) (Finset.subset_univ _)) $$ Hx; iintro Hx
  rw [show (Memref.whole cc0_stg0_0 : Memref sig .tc .vmem S512x256 .f32).view.readAt (Elt F) (Rect.unit (s := S512x256) ![0, 0] S512x256.size inb_S512x256_S512x256_0_0).toLoadRect x = x from
    Memref.readAt_unit_zero (Elt F) cc0_stg0_0 origin _ x]
  iapply (wp_load 𝒱₀ (c : Thread nD τ) none Set.univ (m := Memref.whole cc0_stg1_0) (Finset.subset_univ _)) $$ Hy; iintro Hy
  rw [show (Memref.whole cc0_stg1_0 : Memref sig .tc .vmem S256x512 .f32).view.readAt (Elt F) (Rect.unit (s := S256x512) ![0, 0] S256x512.size inb_S256x512_S256x512_0_0).toLoadRect y = y from
    Memref.readAt_unit_zero (Elt F) cc0_stg1_0 origin _ y]
  iapply (wp_load 𝒱₀ (c : Thread nD τ) none Set.univ (m := outM) (Finset.subset_univ _)) $$ Ho; iintro Ho
  iapply (wp_store 𝒱₀ (c : Thread nD τ) none Set.univ (m := outM) (r := Rect.unit (s := S512x512) ![0, 0] S512x512.size inb_S512x512_S512x512_0_0) (Mk := Finset.univ) (Finset.subset_univ _)) $$ Ho; iintro Ho
  rw [show (outM.access (Rect.unit (s := S512x512) ![0, 0] S512x512.size inb_S512x512_S512x512_0_0) : View sig .tc _ _ _).write (Elt F) o (k0_pay1 x y) Finset.univ = k0_pay1 x y from
    Memref.write_access_unit_zero_univ (Elt F) cc0_stg2_0 origin _ o (k0_pay1 x y)]
  iapply Hk
  isplitl [Hx]; · iexact Hx
  isplitl [Hy]; · iexact Hy
  iexact Ho

/-! ## What a device starts from -/

section Ghost
variable (P : Dev nD → S512x512.Idx → Elt F .f32) (K : Cells → ℕ) (c : Dev nD)

/-- Device `c`'s positions at sixteen semaphores of its own, before the first round; and their counters, closed. -/
def row (a : Fin 4) (w : Fin 2) : sProp 𝕄 := bigSep Finset.univ fun s => atPos ER (cell c a w s) 0 ∅ 0
def zeroRow (a : Fin 4) (w : Fin 2) : sProp 𝕄 := bigSep Finset.univ fun s => semVal (cell c a w s) 0

/-- Of wave `w`: the right to pay its own send semaphores and its peers' receive semaphores, the payments which it is
    due, and its positions. -/
def waveGhost (w : Fin 2) : sProp 𝕄 :=
  iprop((peers c (fun p => dutyTok ER (cell c 0 w p) 0 0) ∗ peers c (fun p => dutyTok ER (cell p 1 w c) 0 0)
      ∗ peers c (fun p => dutyTok ER (cell c 2 w p) 0 0) ∗ peers c (fun p => dutyTok ER (cell p 3 w c) 0 0))
    ∗ (peers c (fun p => cred (tallyAt (cell c 1 w p) () N)) ∗ peers c (fun p => cred (tallyAt (cell c 3 w p) () N)))
    ∗ (row c 0 w ∗ row c 1 w ∗ row c 2 w ∗ row c 3 w))

/-- Of the barrier: the right to signal its peers, the signals which it is due, and its position. -/
def barGhost : sProp 𝕄 :=
  iprop(over js (fun j => dutyTok ER (barCell (peer c j)) 0 j.rev) ∗ cred (tallyAt (barCell c) () 15) ∗ atPos ER (barCell c) 0 ∅ 0)

def zeros (w : Fin 2) : sProp 𝕄 := iprop(zeroRow c 0 w ∗ zeroRow c 1 w ∗ zeroRow c 2 w ∗ zeroRow c 3 w)

theorem row_eq (a : Fin 4) (w : Fin 2) : (row c a w : sProp 𝕄) = iprop(atPos ER (cell c a w c) 0 ∅ 0 ∗ peers c (fun p => atPos ER (cell c a w p) 0 ∅ 0)) :=
  own_and_peers c _

theorem expecting (b : Fin 4) (w : Fin 2) :
    (iprop(peers c (fun p => cred (tallyAt (cell c b w p) () N)) ∗ peers c (fun p => atPos ER (cell c b w p) 0 ∅ 0)) : sProp 𝕄) ⊢ peers c (pending c b w) :=
  Entails.of_eq (over_sep _ _).symm

/-- With something that stays, a step at each peer. -/
theorem over_update (Z : sProp 𝕄) [BI.Persistent Z] (Φ Ψ : Fin 15 → sProp 𝕄) (h : ∀ j, iprop(Z ∗ Φ j) ⊢ (|={Set.univ}=> Ψ j : sProp 𝕄)) :
    ∀ l : List (Fin 15), iprop(Z ∗ over l Φ) ⊢ (|={Set.univ}=> over l Ψ : sProp 𝕄)
  | [] => by
      unfold over; iintro ⟨-, H⟩; imodintro; iexact H
  | j :: l => by
      unfold over
      iintro ⟨#HZ, H, Hs⟩
      imod (h j) $$ [H] with H
      · isplitr; · iexact HZ
        iexact H
      imod (over_update Z Φ Ψ h l) $$ [Hs] with Hs
      · isplitr; · iexact HZ
        iexact Hs
      imodintro
      isplitl [H]; · iexact H
      iexact Hs

theorem bar_close : iprop(records P K ∗ atPos ER (barCell c) 1 ∅ 0) ⊢ (|={Set.univ}=> semVal (barCell c) 0 : sProp 𝕄) := by
  iintro ⟨#HZ, H⟩
  ihave HB := (records_bar P K c) $$ HZ
  icases HB with ⟨#HI, -⟩
  iapply (Rounds.cell_close ER (rd P) (Set.mem_univ (K (c, none))) (fun h => h) (R := 1) (duties_later P (barCell c)))
  isplitr; · iexact HI
  iexact H

theorem cell_done (a : Fin 4) (w : Fin 2) (s : Dev nD) (R : ℕ) (hR : ∀ r, R ≤ r → (rd P).duties (cell c a w s) r = ∅) :
    iprop(records P K ∗ atPos ER (cell c a w s) R ∅ 0) ⊢ (|={Set.univ}=> semVal (cell c a w s) 0 : sProp 𝕄) := by
  iintro ⟨#HZ, H⟩
  ihave HB := (records_cell P K c a w s) $$ HZ
  icases HB with ⟨#HI, -⟩
  iapply (Rounds.cell_close ER (rd P) (Set.mem_univ (K (c, some (a, w, s)))) (fun h => h) (R := R) hR)
  isplitr; · iexact HI
  iexact H

theorem row_close (a : Fin 4) (w : Fin 2) :
    iprop(records P K ∗ atPos ER (cell c a w c) 0 ∅ 0 ∗ peers c (passed c a w)) ⊢ (|={Set.univ}=> zeroRow c a w : sProp 𝕄) := by
  unfold zeroRow
  rw [own_and_peers c]
  iintro ⟨#HZ, H, Hs⟩
  imod (cell_done P K c a w c 0 fun r _ => duties_own P c a w r) $$ [H] with H
  · isplitr; · iexact HZ
    iexact H
  imod (over_update (records P K) (fun j => passed c a w (peer c j)) (fun j => semVal (cell c a w (peer c j)) 0)
    (fun j => cell_done P K c a w (peer c j) 1 (duties_later P _)) js) $$ [Hs] with Hs
  · isplitr; · iexact HZ
    iexact Hs
  imodintro
  isplitl [H]; · iexact H
  iexact Hs

/-! ## The run -/

/-- What the body leaves behind of wave `w`: the semaphores closed, the buffers' slots, and the finished chunks. -/
def waveEnd (w : Fin 2) : sProp 𝕄 :=
  iprop(zeros c w ∗ (slotAny sendM c w 0 ∗ over js fun j => slotAny sendM c w j.succ) ∗ peers c (slotAny partM c w) ∗ peers c (slotAny doneM c w)
    ∗ chunk c w c (res P c w) ∗ peers c (fun p => chunk c w p (wide (resb P p w))))

/-- What is left of wave `w` before the last waits for its own copies. -/
def waveLast (w : Fin 2) : sProp 𝕄 :=
  iprop((peers c (pending c 0 w) ∗ peers c (pending c 2 w) ∗ slot sendM c w 0 (Transfers.shareDrop fullShare 15) (resb P c w))
    ∗ (atPos ER (cell c 0 w c) 0 ∅ 0 ∗ atPos ER (cell c 1 w c) 0 ∅ 0 ∗ atPos ER (cell c 2 w c) 0 ∅ 0 ∗ atPos ER (cell c 3 w c) 0 ∅ 0)
    ∗ (peers c (passed c 1 w) ∗ peers c (passed c 3 w))
    ∗ peers c (slotAny partM c w) ∗ peers c (slotAny doneM c w)
    ∗ chunk c w c (res P c w) ∗ peers c (fun p => chunk c w p (wide (resb P p w))))

/-- When all of a wave's copies have been waited for. -/
theorem wave_close (w : Fin 2) :
    iprop(records P K ∗ (slot sendM c w 0 (Transfers.shareDrop fullShare 15) (resb P c w))
    ∗ (atPos ER (cell c 0 w c) 0 ∅ 0 ∗ atPos ER (cell c 1 w c) 0 ∅ 0 ∗ atPos ER (cell c 2 w c) 0 ∅ 0 ∗ atPos ER (cell c 3 w c) 0 ∅ 0)
    ∗ (peers c (passed c 1 w) ∗ peers c (passed c 3 w))
    ∗ (over js (fun j => slotAny sendM c w j.succ) ∗ peers c (passed c 0 w))
    ∗ (over js (fun j => slot sendM c w 0 (readShare j.val) (resb P c w)) ∗ peers c (passed c 2 w))
    ∗ peers c (slotAny partM c w) ∗ peers c (slotAny doneM c w)
    ∗ chunk c w c (res P c w) ∗ peers c (fun p => chunk c w p (wide (resb P p w))))
      ⊢ (|={Set.univ}=> waveEnd P c w : sProp 𝕄) := by
  unfold waveEnd zeros
  iintro ⟨#HZ, Hd, ⟨H0, H1, H2, H3⟩, ⟨P1, P3⟩, ⟨Hs, P0⟩, ⟨Hss, P2⟩, Hp, Hq, Hc, Hcs⟩
  imod (row_close P K c 0 w) $$ [H0 P0] with H0
  · isplitr; · iexact HZ
    isplitl [H0] <;> iassumption
  imod (row_close P K c 1 w) $$ [H1 P1] with H1
  · isplitr; · iexact HZ
    isplitl [H1] <;> iassumption
  imod (row_close P K c 2 w) $$ [H2 P2] with H2
  · isplitr; · iexact HZ
    isplitl [H2] <;> iassumption
  imod (row_close P K c 3 w) $$ [H3 P3] with H3
  · isplitr; · iexact HZ
    isplitl [H3] <;> iassumption
  imodintro
  isplitl [H0 H1 H2 H3]
  · isplitl [H0]; · iexact H0
    isplitl [H1]; · iexact H1
    isplitl [H2]; · iexact H2
    iexact H3
  isplitl [Hd Hss Hs]
  · isplitl [Hd Hss]
    · iapply (slot_any sendM c w 0 (resb P c w))
      iapply (slot_undeal c w (resb P c w))
      isplitl [Hd]; · iexact Hd
      iexact Hss
    iexact Hs
  isplitl [Hp]; · iexact Hp
  isplitl [Hq]; · iexact Hq
  isplitl [Hc]; · iexact Hc
  iexact Hcs

/-- The last waits. -/
theorem drains_run (h3 : sendM.IsWhole) (h4 : partM.IsWhole) (h5 : doneM.IsWhole) (Q : PUnit → sProp 𝕄) :
    iprop(records P K ∗ atPos ER (barCell c) 1 ∅ 0 ∗ waveLast P c 0 ∗ waveLast P c 1 ∗ owing c 0
        ∗ ((semVal (barCell c) 0 ∗ waveEnd P c 0 ∗ waveEnd P c 1 ∗ owing c 0) -∗ Q ⟨⟩))
      ⊢ runs c (drainScatter (plain c) sendM h3 partM h4 (arr 0) 0 <| drainScatter (plain c) sendM h3 partM h4 (arr 0) 1 <|
          drainGather (plain c) sendM h3 doneM h5 (arr 2) 0 <| drainGather (plain c) sendM h3 doneM h5 (arr 2) 1 <| .ret ⟨⟩) Q := by
  unfold waveLast
  iintro ⟨#HZ, HB, ⟨⟨D0, E0, S0⟩, A0, B0, R0⟩, ⟨⟨D1, E1, S1⟩, A1, B1, R1⟩, HO, Hk⟩
  iapply (drainScatter_run P K c 0 h3 h4)
  isplitr; · iexact HZ
  isplitl [D0]; · iexact D0
  isplitl [HO]; · iexact HO
  iintro ⟨T0, D0, HO⟩
  iapply (drainScatter_run P K c 1 h3 h4)
  isplitr; · iexact HZ
  isplitl [D1]; · iexact D1
  isplitl [HO]; · iexact HO
  iintro ⟨T1, D1, HO⟩
  iapply (drainGather_run P K c 0 h3 h5)
  isplitr; · iexact HZ
  isplitl [E0]; · iexact E0
  isplitl [HO]; · iexact HO
  iintro ⟨U0, E0, HO⟩
  iapply (drainGather_run P K c 1 h3 h5)
  isplitr; · iexact HZ
  isplitl [E1]; · iexact E1
  isplitl [HO]; · iexact HO
  iintro ⟨U1, E1, HO⟩
  unfold runs; rw [wp_ret]
  imod (bar_close P K c) $$ [HB] with HB
  · isplitr; · iexact HZ
    iexact HB
  imod (wave_close P K c 0) $$ [S0 A0 B0 T0 D0 U0 E0 R0] with H0
  · isplitr; · iexact HZ
    isplitl [S0]; · iexact S0
    isplitl [A0]; · iexact A0
    isplitl [B0]; · iexact B0
    isplitl [T0 D0]
    · isplitl [T0] <;> iassumption
    isplitl [U0 E0]
    · isplitl [U0] <;> iassumption
    iexact R0
  imod (wave_close P K c 1) $$ [S1 A1 B1 T1 D1 U1 E1 R1] with H1
  · isplitr; · iexact HZ
    isplitl [S1]; · iexact S1
    isplitl [A1]; · iexact A1
    isplitl [B1]; · iexact B1
    isplitl [T1 D1]
    · isplitl [T1] <;> iassumption
    isplitl [U1 E1]
    · isplitl [U1] <;> iassumption
    iexact R1
  imodintro
  iapply Hk
  isplitl [HB]; · iexact HB
  isplitl [H0]; · iexact H0
  isplitl [H1]; · iexact H1
  iexact HO

/-- What device `c` has of wave `w` when the scatter is on its way. -/
def waveSent (w : Fin 2) : sProp 𝕄 :=
  iprop((chunk c w c (chunkOf (P c) w c) ∗ peers c (fun p => chunk c w p (chunkOf (P c) w p))) ∗ slotAny sendM c w 0 ∗ peers c (fun p => slotAny doneM p w c)
    ∗ (peers c (fun p => dutyTok ER (cell c 2 w p) 0 0) ∗ peers c (fun p => dutyTok ER (cell p 3 w c) 0 0))
    ∗ (peers c (pending c 0 w) ∗ peers c (pending c 1 w) ∗ peers c (fun p => atPos ER (cell c 2 w p) 0 ∅ 0) ∗ peers c (pending c 3 w))
    ∗ (atPos ER (cell c 0 w c) 0 ∅ 0 ∗ atPos ER (cell c 1 w c) 0 ∅ 0 ∗ atPos ER (cell c 2 w c) 0 ∅ 0 ∗ atPos ER (cell c 3 w c) 0 ∅ 0))

/-- From there to the last waits. -/
theorem gather_run (h3 : sendM.IsWhole) (h4 : partM.IsWhole) (h5 : doneM.IsWhole) (k : Code F) (Q : PUnit → sProp 𝕄) :
    iprop(records P K ∗ waveSent P c 0 ∗ waveSent P c 1 ∗ owing c (owed2 c) ∗ ((waveLast P c 0 ∗ waveLast P c 1 ∗ owing c 0) -∗ runs c k Q))
      ⊢ runs c (reduceWave (plain c) outM sendM h3 partM h4 doneM h5 (arr 1) (arr 2) (arr 3) 0 <| reduceWave (plain c) outM sendM h3 partM h4 doneM h5 (arr 1) (arr 2) (arr 3) 1 <|
          gathers (plain c) outM doneM h5 (arr 3) 0 <| gathers (plain c) outM doneM h5 (arr 3) 1 k) Q := by
  unfold waveSent waveLast
  iintro ⟨#HZ, ⟨⟨C0, X0⟩, S0, D0, ⟨T0, T0'⟩, ⟨E0, R0, U0, G0⟩, A0⟩, ⟨⟨C1, X1⟩, S1, D1, ⟨T1, T1'⟩, ⟨E1, R1, U1, G1⟩, A1⟩, HO, Hk⟩
  iapply (reduceWave_run P K c 0 h3 h4 h5 (owed1 c) (above2 c))
  isplitr; · iexact HZ
  isplitl [C0]; · iexact C0
  isplitl [S0]; · iexact S0
  isplitl [R0]; · iexact R0
  isplitl [D0]; · iexact D0
  isplitl [T0]; · iexact T0
  isplitl [T0']; · iexact T0'
  isplitl [HO]; · unfold owed2; iexact HO
  iintro ⟨C0, S0, L0, R0, V0, HO⟩
  iapply (reduceWave_run P K c 1 h3 h4 h5 0 (above1 c))
  isplitr; · iexact HZ
  isplitl [C1]; · iexact C1
  isplitl [S1]; · iexact S1
  isplitl [R1]; · iexact R1
  isplitl [D1]; · iexact D1
  isplitl [T1]; · iexact T1
  isplitl [T1']; · iexact T1'
  isplitl [HO]; · unfold owed1; iexact HO
  iintro ⟨C1, S1, L1, R1, V1, HO⟩
  iapply (gathers_run P K c 0 h5)
  isplitr; · iexact HZ
  isplitl [G0]; · iexact G0
  isplitl [X0]; · iexact X0
  isplitl [HO]; · iexact HO
  iintro ⟨M0, G0, X0, HO⟩
  iapply (gathers_run P K c 1 h5)
  isplitr; · iexact HZ
  isplitl [G1]; · iexact G1
  isplitl [X1]; · iexact X1
  isplitl [HO]; · iexact HO
  iintro ⟨M1, G1, X1, HO⟩
  iapply Hk
  isplitl [C0 X0 S0 L0 M0 R0 G0 U0 V0 E0 A0]
  · isplitl [E0 U0 V0 S0]
    · isplitl [E0]; · iexact E0
      isplitl [U0 V0]
      · iapply (expecting c 2 0); isplitl [V0] <;> iassumption
      iexact S0
    isplitl [A0]; · iexact A0
    isplitl [R0 G0]
    · isplitl [R0] <;> iassumption
    isplitl [L0]; · iexact L0
    isplitl [M0]; · iexact M0
    isplitl [C0]; · iexact C0
    iexact X0
  isplitl [C1 X1 S1 L1 M1 R1 G1 U1 V1 E1 A1]
  · isplitl [E1 U1 V1 S1]
    · isplitl [E1]; · iexact E1
      isplitl [U1 V1]
      · iapply (expecting c 2 1); isplitl [V1] <;> iassumption
      iexact S1
    isplitl [A1]; · iexact A1
    isplitl [R1 G1]
    · isplitl [R1] <;> iassumption
    isplitl [L1]; · iexact L1
    isplitl [M1]; · iexact M1
    isplitl [C1]; · iexact C1
    iexact X1
  iexact HO

/-- What device `c` has of wave `w` after the barrier. -/
def waveReady (w : Fin 2) : sProp 𝕄 :=
  iprop((chunk c w c (chunkOf (P c) w c) ∗ peers c (fun p => chunk c w p (chunkOf (P c) w p))) ∗ slotAny sendM c w 0
    ∗ peers c (fun p => slotAny partM p w c) ∗ peers c (fun p => slotAny doneM p w c) ∗ waveGhost c w)

/-- Narrowing and sending one wave's chunks. -/
theorem wave_sent (h3 : sendM.IsWhole) (h4 : partM.IsWhole) (w : Fin 2) (O : CellTallies nD τ sig Unit) (k : Code F) (Q : PUnit → sProp 𝕄) :
    iprop(records P K ∗ waveReady P c w ∗ over js (fun j => slot sendM c w j.succ fullShare (part P c w (peer c j))) ∗ owing c (debt (payCell c 1 w) O js)
        ∗ ((waveSent P c w ∗ owing c O) -∗ runs c k Q))
      ⊢ runs c (scatters (plain c) sendM h3 partM h4 (arr 0) (arr 1) w k) Q := by
  unfold waveReady waveSent waveGhost
  simp only [row_eq]
  iintro ⟨#HZ, ⟨Hc, Hs, Hp, Hd, ⟨T0, T1, T2, T3⟩, ⟨C1, C3⟩, ⟨A0, R0⟩, ⟨A1, R1⟩, ⟨A2, R2⟩, A3, R3⟩, Hss, HO, Hk⟩
  iapply (scatters_run P K c w h3 h4 O)
  isplitr; · iexact HZ
  isplitl [Hss]; · iexact Hss
  isplitl [Hp]; · iexact Hp
  isplitl [T0]; · iexact T0
  isplitl [T1]; · iexact T1
  isplitl [HO]; · iexact HO
  iintro ⟨C0, HO⟩
  iapply Hk
  isplitr [HO]
  · isplitl [Hc]; · iexact Hc
    isplitl [Hs]; · iexact Hs
    isplitl [Hd]; · iexact Hd
    isplitl [T2 T3]
    · isplitl [T2] <;> iassumption
    isplitl [C0 R0 C1 R1 R2 C3 R3]
    · isplitl [C0 R0]
      · iapply (expecting c 0 w); isplitl [C0] <;> iassumption
      isplitl [C1 R1]
      · iapply (expecting c 1 w); isplitl [C1] <;> iassumption
      isplitl [R2]; · iexact R2
      iapply (expecting c 3 w); isplitl [C3] <;> iassumption
    isplitl [A0]; · iexact A0
    isplitl [A1]; · iexact A1
    isplitl [A2]; · iexact A2
    iexact A3
  iexact HO

/-- A scratch buffer at some contents. -/
def scratch (M : Memref sig .tc .vmem S2x16x16x512 .bf16) : sProp 𝕄 := iprop(∃ f : M.view.ty.Contents (Elt F), M.view.loc (c : Thread nD τ) ↦{fullShare} f)

/-- The staged operands and the staged result. -/
def staged (x : S512x256.Idx → Elt F .f32) (y : S256x512.Idx → Elt F .f32) (o : S512x512.Idx → Elt F .f32) : sProp 𝕄 :=
  iprop(owns (c : Thread nD τ) (Memref.whole cc0_stg0_0) fullShare x ∗ owns (c : Thread nD τ) (Memref.whole cc0_stg1_0) fullShare y ∗ owns (c : Thread nD τ) outM fullShare o)

/-- The whole body: the buffers come back, all counters are at zero, nothing is owed, and the result is in place. -/
theorem code_run (x : S512x256.Idx → Elt F .f32) (y : S256x512.Idx → Elt F .f32) (o : S512x512.Idx → Elt F .f32) (hP : P c = k0_pay1 x y)
    (h3 : sendM.IsWhole) (h4 : partM.IsWhole) (h5 : doneM.IsWhole) (Q : PUnit → sProp 𝕄) :
    iprop(records P K ∗ (barGhost c ∗ waveGhost c 0 ∗ waveGhost c 1) ∗ (scratch c sendM ∗ scratch c partM ∗ scratch c doneM) ∗ owing c (owed5 c) ∗ staged c x y o
        ∗ ((((semVal (barCell c) 0 ∗ zeros c 0 ∗ zeros c 1) ∗ (scratch c sendM ∗ scratch c partM ∗ scratch c doneM)) ∗ owing c 0 ∗ staged c x y (whole P c)) -∗ Q ⟨⟩))
      ⊢ runs c (code (plain c) (Memref.whole cc0_stg0_0) (Memref.whole cc0_stg1_0) outM sendM h3 partM h4 doneM h5 (arr 0) (arr 1) (arr 2) (arr 3)) Q := by
  unfold code staged barGhost scratch
  iintro ⟨#HZ, ⟨⟨TB, CB, AB⟩, G0, G1⟩, ⟨⟨%f0, HS⟩, ⟨%f1, HP⟩, ⟨%f2, HD⟩⟩, HO, ⟨Hx, Hy, Ho⟩, Hk⟩
  ihave HS := (cut_first c sendM (View.set_whole _) f0) $$ HS
  icases HS with ⟨⟨S0, SS0⟩, S1, SS1⟩
  ihave HP := (cut_own c partM (View.set_whole _) f1) $$ HP
  icases HP with ⟨⟨P0, PP0⟩, P1, PP1⟩
  ihave HD := (cut_own c doneM (View.set_whole _) f2) $$ HD
  icases HD with ⟨⟨D0, DD0⟩, D1, DD1⟩
  ihave HL := (Entails.of_eq (landings c (fun _ => c) (fun p => p)).symm) $$ [PP0 PP1 DD0 DD1]
  · isplitl [PP0 PP1]
    · isplitl [PP0] <;> iassumption
    isplitl [DD0] <;> iassumption
  iapply (signals_run P K c)
  isplitr; · iexact HZ
  isplitl [TB]; · iexact TB
  isplitl [HL]; · iexact HL
  isplitl [HO]; · iexact HO
  iintro HO
  iapply (product_run c x y o)
  isplitl [Hx]; · iexact Hx
  isplitl [Hy]; · iexact Hy
  isplitl [Ho]; · iexact Ho
  rw [← hP]
  iintro ⟨Hx, Hy, Ho⟩
  ihave HC := (cut_result c (P c)) $$ Ho
  icases HC with ⟨⟨C0, CC0⟩, C1, CC1⟩
  iapply (casts_run P c 0 h3)
  isplitl [CC0]; · iexact CC0
  isplitl [SS0]; · iexact SS0
  iintro ⟨CC0, SS0⟩
  iapply (barrier_step P K c)
  isplitr; · iexact HZ
  isplitl [CB AB]
  · isplitl [CB] <;> iassumption
  isplitl [HO]; · iexact HO
  rw [← over_js, landings c (fun p => p) (fun _ => c)]
  iintro ⟨⟨⟨PP0, PP1⟩, DD0, DD1⟩, AB, HO⟩
  iapply (wave_sent P K c h3 h4 0 (owed3 c))
  isplitr; · iexact HZ
  isplitl [C0 CC0 S0 PP0 DD0 G0]
  · unfold waveReady
    isplitl [C0 CC0]
    · isplitl [C0] <;> iassumption
    isplitl [S0]; · iexact S0
    isplitl [PP0]; · iexact PP0
    isplitl [DD0]; · iexact DD0
    iexact G0
  isplitl [SS0]; · iexact SS0
  isplitl [HO]; · unfold owed4; iexact HO
  iintro ⟨W0, HO⟩
  iapply (casts_run P c 1 h3)
  isplitl [CC1]; · iexact CC1
  isplitl [SS1]; · iexact SS1
  iintro ⟨CC1, SS1⟩
  iapply (wave_sent P K c h3 h4 1 (owed2 c))
  isplitr; · iexact HZ
  isplitl [C1 CC1 S1 PP1 DD1 G1]
  · unfold waveReady
    isplitl [C1 CC1]
    · isplitl [C1] <;> iassumption
    isplitl [S1]; · iexact S1
    isplitl [PP1]; · iexact PP1
    isplitl [DD1]; · iexact DD1
    iexact G1
  isplitl [SS1]; · iexact SS1
  isplitl [HO]; · unfold owed3; iexact HO
  iintro ⟨W1, HO⟩
  iapply (gather_run P K c h3 h4 h5)
  isplitr; · iexact HZ
  isplitl [W0]; · iexact W0
  isplitl [W1]; · iexact W1
  isplitl [HO]; · iexact HO
  iintro ⟨W0, W1, HO⟩
  iapply (drains_run P K c h3 h4 h5)
  isplitr; · iexact HZ
  isplitl [AB]; · iexact AB
  isplitl [W0]; · iexact W0
  isplitl [W1]; · iexact W1
  isplitl [HO]; · iexact HO
  unfold waveEnd
  iintro ⟨ZB, ⟨Z0, S0, PP0, DD0, C0⟩, ⟨Z1, S1, PP1, DD1, C1⟩, HO⟩
  iapply Hk
  isplitr [HO Hx Hy C0 C1]
  · isplitl [ZB Z0 Z1]
    · isplitl [ZB]; · iexact ZB
      isplitl [Z0] <;> iassumption
    isplitl [S0 S1]
    · iapply (join_first c sendM (View.set_whole _))
      isplitl [S0] <;> iassumption
    isplitl [P0 PP0 P1 PP1]
    · iapply (join_own c partM (View.set_whole _))
      isplitl [P0 PP0]
      · isplitl [P0] <;> iassumption
      isplitl [P1] <;> iassumption
    iapply (join_own c doneM (View.set_whole _))
    isplitl [D0 DD0]
    · isplitl [D0] <;> iassumption
    isplitl [D1] <;> iassumption
  isplitl [HO]; · iexact HO
  isplitl [Hx]; · iexact Hx
  isplitl [Hy]; · iexact Hy
  iapply (join_result P c)
  isplitl [C0] <;> iassumption

end Ghost

end Cert.KernelIdeal.Body
-- ==== Proof.Start.lean ====
/-
# The start of the protocol

How the protocol's ghost state comes about when the kernel is launched on all devices, and how it is dealt to them: every
device keeps its own positions and gets the right to pay what it pays, and the payments which it is due.
-/
module

public import proofs.«01_k».proof.Proof.Body

@[expose] public section

noncomputable section

namespace Cert.KernelIdeal.Start

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Loops Cert.KernelIdeal.Pieces Cert.KernelIdeal.Protocol Cert.KernelIdeal.Steps
open Cert.KernelIdeal.Waves Cert.KernelIdeal.Body

variable {F : FTy → Type} [FloatOps F]

local notation "𝕄" => MT nD τ sig Unit (Elt F) ℕ UU ℕ

/-! ## The semaphores -/

/-- The kernel's own semaphores. -/
abbrev osem (k : Own) : SemLoc sig := .dma (dsem k.1 k.2.1 k.2.2)

theorem osem_injective : Function.Injective osem := fun k k' h => by
  have e : slotOf (dsem k.1 k.2.1 k.2.2) = slotOf (dsem k'.1 k'.2.1 k'.2.2) := by
    injection h with h; rw [h]
  rwa [slotOf_dsem, slotOf_dsem] at e

theorem ownSemFacts : Pipeline.OwnSemFacts cfg0.spec osem where
  isScoped := by simp only [osem, dsem_eq]; decide +kernel
  inj := osem_injective
  disj := by simp only [osem, dsem_eq]; decide +kernel

theorem cellAt_injective : Function.Injective cellAt := by
  rintro ⟨c, k⟩ ⟨c', k'⟩ h
  have h1 : c = c' := by cases k <;> cases k' <;> exact congrArg (fun g : GSem nD τ sig => g.1.1) h
  subst h1
  have h2 := congrArg Prod.snd h
  cases k with
  | none => cases k' with
    | none => rfl
    | some k' => cases h2
  | some k => cases k' with
    | none => cases h2
    | some k' => rw [osem_injective h2]

def allCells : Finset (GSem nD τ sig) := Finset.univ.map ⟨cellAt, cellAt_injective⟩

/-- Of an array, two waves' rows; of a device's semaphores, the barrier and the rows. -/
theorem all_own (Φ : Own → sProp 𝕄) :
    bigSep Finset.univ Φ = bigSep Finset.univ fun w : Fin 2 => bigSep Finset.univ fun a : Fin 4 => bigSep Finset.univ fun s : Fin 16 => Φ (a, w, s) := by
  rw [bigSep_univ_comm (fun (w : Fin 2) (a : Fin 4) => bigSep Finset.univ fun s : Fin 16 => Φ (a, w, s)), bigSep_univ_prod]
  exact bigSep_congr fun a _ => bigSep_univ_prod (fun x : Fin 2 × Fin 16 => Φ (a, x))
theorem turn (A B : sProp 𝕄) : iprop(A ∗ B) = iprop(B ∗ A) :=
  have h (A B : sProp 𝕄) : iprop(A ∗ B) ⊢ iprop(B ∗ A) := by iintro ⟨H, H'⟩; isplitl [H'] <;> iassumption
  Entails.antisymm (h A B) (h B A)
theorem all_opt {I : Type} [Fintype I] (Φ : Option I → sProp 𝕄) : bigSep Finset.univ Φ = iprop(Φ none ∗ bigSep Finset.univ fun i => Φ (some i)) := by
  rw [bigSep_univ_equiv (Equiv.optionEquivSumPUnit I).symm Φ, bigSep_univ_sum, show (Finset.univ : Finset PUnit.{1}) = {PUnit.unit} from rfl, bigSep_singleton]
  exact turn _ _
theorem all_four (Φ : Fin 4 → sProp 𝕄) : bigSep Finset.univ Φ = iprop(Φ 0 ∗ Φ 1 ∗ Φ 2 ∗ Φ 3) := bigSep_univ_eq_bigSepL [0, 1, 2, 3] (by decide) (by decide) Φ

/-- One wave's semaphores: four rows. -/
abbrev rowsOf (Φ : Own → sProp 𝕄) (w : Fin 2) : sProp 𝕄 :=
  iprop((bigSep Finset.univ fun s : Fin 16 => Φ (0, w, s)) ∗ (bigSep Finset.univ fun s : Fin 16 => Φ (1, w, s))
    ∗ (bigSep Finset.univ fun s : Fin 16 => Φ (2, w, s)) ∗ (bigSep Finset.univ fun s : Fin 16 => Φ (3, w, s)))
theorem all_waves (Φ : Own → sProp 𝕄) : bigSep Finset.univ Φ = iprop(rowsOf Φ 0 ∗ rowsOf Φ 1) := by
  rw [all_own, bigSep_fin_two, all_four, all_four]; rfl

theorem ownSems0_eq (c : Dev nD) : (Pipeline.ownSems0 (Ix := Unit) (Name := ℕ) (U := UU) (Lvl := ℕ) (Val := Elt F) (τ := τ) osem c : sProp 𝕄)
    = iprop(zeros c 0 ∗ zeros c 1) := by
  unfold Pipeline.ownSems0
  rw [all_waves]
  rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option Own => semVal (cellAt (c, k)) 0 : sProp 𝕄) := by
  rw [all_opt, unscopedSems0_eq]
  iintro ⟨H, HB⟩
  isplitl [HB]; · iexact HB
  unfold Pipeline.ownSems0; iexact H

/-! ## The rights to pay -/

/-- All rights to pay: at device `c`, numbered by offsets, of the barrier and of the eight rows. -/
abbrev Tok : Type := Dev nD × Fin 15 × Option (Fin 4 × Fin 2)
def tokOf (x : Tok) : GSem nD τ sig × ℕ × Fin 15 := match x.2.2 with
  | none => (barCell x.1, 0, x.2.1)
  | some (a, w) => (cell x.1 a w (peer x.1 x.2.1), 0, 0)

theorem tokOf_injective : Function.Injective tokOf := by
  rintro ⟨c, j, k⟩ ⟨c', j', k'⟩ h
  have h1 : c = c' := by cases k <;> cases k' <;> exact congrArg (fun x : GSem nD τ sig × ℕ × Fin 15 => x.1.1.1) h
  subst h1
  have h2 := congrArg (fun x : GSem nD τ sig × ℕ × Fin 15 => x.1.2) h
  cases k with
  | none => cases k' with
    | none =>
      have h3 : j = j' := congrArg (fun x : GSem nD τ sig × ℕ × Fin 15 => x.2.2) h
      rw [h3]
    | some k' => cases h2
  | some k => cases k' with
    | none => cases h2
    | some k' =>
      have h3 : ((k.1, k.2, peer c j) : Own) = (k'.1, k'.2, peer c j') := osem_injective h2
      have h4 : j = j' := peer_injective c j j' (congrArg (fun k : Own => k.2.2) h3)
      have h5 : k = k' := Prod.ext (congrArg (fun k : Own => k.1) h3) (congrArg (fun k : Own => k.2.1) h3)
      rw [h4, h5]

def allToks : Finset (GSem nD τ sig × ℕ × Fin 15) := Finset.univ.map ⟨tokOf, tokOf_injective⟩

abbrev tok (x : Tok) : sProp 𝕄 := dutyTok ER (tokOf x).1 (tokOf x).2.1 (tokOf x).2.2

/-- Who pays: of a device's own send semaphores the device itself, of the others the peer. -/
def payer (k : Option (Fin 4 × Fin 2)) : Dev nD × Fin 15 ≃ Dev nD × Fin 15 := match k with
  | none => swap
  | some (a, _) => if a = 0 ∨ a = 2 then Equiv.refl _ else swap

/-- The rights which device `c` has, and all of them. -/
def rights (c : Dev nD) (k : Option (Fin 4 × Fin 2)) : sProp 𝕄 := bigSep Finset.univ fun j : Fin 15 => tok ((payer k (c, j)).1, (payer k (c, j)).2, k)
def pays (c : Dev nD) : sProp 𝕄 := bigSep Finset.univ fun k : Option (Fin 4 × Fin 2) => rights c k

theorem toks_dealt : (bigSep Finset.univ fun x : Tok => (tok x : sProp 𝕄)) = bigSep Finset.univ fun c : Dev nD => pays c := by
  have e : (bigSep Finset.univ fun x : Tok => (tok x : sProp 𝕄))
      = bigSep Finset.univ fun y : (Dev nD × Fin 15) × Option (Fin 4 × Fin 2) => tok (y.1.1, y.1.2, y.2) := by
    rw [bigSep_univ_equiv (Equiv.prodAssoc (Dev nD) (Fin 15) (Option (Fin 4 × Fin 2)))]; rfl
  rw [e, bigSep_univ_prod, bigSep_univ_comm]
  have e2 (k : Option (Fin 4 × Fin 2)) : (bigSep Finset.univ fun y : Dev nD × Fin 15 => (tok (y.1, y.2, k) : sProp 𝕄)) = bigSep Finset.univ fun c : Dev nD => rights c k := by
    rw [bigSep_univ_equiv (payer k), bigSep_univ_prod]; rfl
  rw [bigSep_congr fun k _ => e2 k, bigSep_univ_comm]; rfl

theorem rights_bar (c : Dev nD) : (rights c none : sProp 𝕄) = over js fun j => dutyTok ER (barCell (peer c j)) 0 j.rev := by rw [over_js]; rfl
theorem rights_send (c : Dev nD) (a : Fin 4) (w : Fin 2) (h : a = 0 ∨ a = 2) : (rights c (some (a, w)) : sProp 𝕄) = peers c fun p => dutyTok ER (cell c a w p) 0 0 := by
  unfold peers; rw [over_js]; unfold rights
  refine bigSep_congr fun j _ => ?_
  rw [show payer (some (a, w)) = Equiv.refl _ from if_pos h]; rfl
theorem rights_recv (c : Dev nD) (a : Fin 4) (w : Fin 2) (h : ¬(a = 0 ∨ a = 2)) : (rights c (some (a, w)) : sProp 𝕄) = peers c fun p => dutyTok ER (cell p a w c) 0 0 := by
  unfold peers; rw [over_js]; unfold rights
  refine bigSep_congr fun j _ => ?_
  rw [show payer (some (a, w)) = swap from if_neg h]
  show (dutyTok ER (cell (peer c j) a w (peer (peer c j) j.rev)) 0 0 : sProp 𝕄) = _
  rw [peer_back]

theorem pays_eq (c : Dev nD) : (pays c : sProp 𝕄)
    = iprop(rights c none ∗ ((rights c (some (0, 0)) ∗ rights c (some (1, 0)) ∗ rights c (some (2, 0)) ∗ rights c (some (3, 0)))
        ∗ (rights c (some (0, 1)) ∗ rights c (some (1, 1)) ∗ rights c (some (2, 1)) ∗ rights c (some (3, 1))))) := by
  unfold pays
  rw [all_opt, bigSep_univ_prod, ← bigSep_univ_comm, bigSep_fin_two, all_four, all_four]
  rfl

/-! ## The ghost state -/

section Ghost
variable (P : Dev nD → S512x512.Idx → Elt F .f32)

/-- What is minted for device `c`: its semaphores' first rounds, its positions at them, and the rights to pay them. -/
def minted (c : Dev nD) : sProp 𝕄 :=
  iprop((bigSep Finset.univ fun k : Option Own => roundState ER (rd P) (cellAt (c, k)) 0)
    ∗ (bigSep Finset.univ fun k : Option Own => iprop(atPos ER (cellAt (c, k)) 0 ∅ 0 ∗ reached ER (cellAt (c, k)) 0))
    ∗ bigSep Finset.univ fun x : Fin 15 × Option (Fin 4 × Fin 2) => tok (c, x))

/-- All semaphores' invariants. -/
def invariants (K : Cells → ℕ) : sProp 𝕄 := bigSep Finset.univ fun x : Cells => iprop(cellInv ER (rd P) (K x) (cellAt x) ∗ reached ER (cellAt x) 0)
instance invariants_persistent (K : Cells → ℕ) : BI.Persistent (invariants P K) := by unfold invariants; infer_instance

/-- What device `c` has before it starts: the invariants, its positions, and the rights to pay what it pays. -/
def dealt (c : Dev nD) : sProp 𝕄 :=
  iprop(∃ K, invariants P K ∗ (bigSep Finset.univ fun k : Option Own => atPos ER (cellAt (c, k)) 0 ∅ 0) ∗ pays c)

theorem fund : BI.own (ER (initOf allCells allToks)) ⊢ (|==> bigSep Finset.univ (minted P) : sProp 𝕄) := by
  have hX (Φ : GSem nD τ sig → sProp 𝕄) : bigSep allCells Φ = bigSep Finset.univ fun c : Dev nD => bigSep Finset.univ fun k : Option Own => Φ (cellAt (c, k)) := by
    unfold allCells; rw [bigSep_map, bigSep_univ_prod]; rfl
  have hT : bigSep allToks (fun x => (dutyTok ER x.1 x.2.1 x.2.2 : sProp 𝕄)) = bigSep Finset.univ fun c : Dev nD => bigSep Finset.univ fun x : Fin 15 × Option (Fin 4 × Fin 2) => tok (c, x) := by
    unfold allToks; rw [bigSep_map, bigSep_univ_prod]; rfl
  iintro HX
  imod (Rounds.fund ER (rd P) allCells allToks) $$ HX with ⟨Hst, Hr, Hat, Htok⟩
  imodintro
  ihave Hst := (Entails.of_eq (hX fun g => roundState ER (rd P) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold minted; simp only [bigSep_sep']
  isplitl [Hst]; · iexact Hst
  isplitl [Hat Hr]
  · isplitl [Hat] <;> iassumption
  iexact Htok

/-- Device `c`'s semaphores put under their invariants. -/
theorem alloc (c : Dev nD) :
    iprop(Pipeline.ownSems0 (Ix := Unit) (Name := ℕ) (U := UU) (Lvl := ℕ) (Val := Elt F) (τ := τ) osem c ∗ unscopedSems0 c ∗ minted P c)
      ⊢ |={Set.univ}=> iprop((bigSep Finset.univ fun k : Option Own => iprop(∃ κ : ℕ, cellInv ER (rd P) κ (cellAt (c, k))))
          ∗ (bigSep Finset.univ fun k : Option Own => iprop(atPos ER (cellAt (c, k)) 0 ∅ 0 ∗ reached ER (cellAt (c, k)) 0))
          ∗ bigSep Finset.univ fun x : Fin 15 × Option (Fin 4 × Fin 2) => tok (c, x)) := by
  have hinv : iprop((bigSep Finset.univ fun k : Option Own => semVal (cellAt (c, k)) 0) ∗ bigSep Finset.univ fun k : Option Own => roundState ER (rd P) (cellAt (c, k)) 0)
      ⊢ (|={Set.univ}=> bigSep Finset.univ fun k : Option Own => iprop(∃ κ : ℕ, cellInv ER (rd P) κ (cellAt (c, k))) : sProp 𝕄) := by
    rw [← bigSep_sep']
    exact (bigSep_mono fun k _ => (Rounds.body_intro ER (rd P) (cellAt (c, k))).trans inv_alloc).trans (bigSep_fupd _ _)
  unfold minted
  iintro ⟨Hos, Hus, Hst, Hat, Htok⟩
  ihave Hv := (sems0_eq (F := F) c) $$ [Hos Hus]
  · isplitl [Hos] <;> iassumption
  imod hinv $$ [Hv Hst] with Hinv
  · isplitl [Hv] <;> iassumption
  imodintro
  isplitl [Hinv]; · iexact Hinv
  isplitl [Hat]; · iexact Hat
  iexact Htok

theorem all_with {I : Type} [Fintype I] [DecidableEq I] {R : sProp 𝕄} [BI.Persistent R] {Φ Ψ : I → sProp 𝕄} (h : ∀ i, iprop(R ∗ Φ i) ⊢ Ψ i) :
    iprop(R ∗ bigSep Finset.univ Φ) ⊢ bigSep Finset.univ Ψ :=
  (sep_mono_left (BI.bigSep_of_persistent Finset.univ R)).trans (by rw [← bigSep_sep']; exact bigSep_mono fun i _ => h i)

theorem deal :
    (bigSep Finset.univ fun c : Dev nD => iprop((bigSep Finset.univ fun k : Option Own => iprop(∃ κ : ℕ, cellInv ER (rd P) κ (cellAt (c, k))))
          ∗ (bigSep Finset.univ fun k : Option Own => iprop(atPos ER (cellAt (c, k)) 0 ∅ 0 ∗ reached ER (cellAt (c, k)) 0))
          ∗ bigSep Finset.univ fun x : Fin 15 × Option (Fin 4 × Fin 2) => tok (c, x)) : sProp 𝕄)
      ⊢ bigSep Finset.univ (dealt P) := by
  rw [bigSep_sep', bigSep_sep', ← bigSep_univ_prod (fun x : Cells => iprop(∃ κ : ℕ, cellInv ER (rd P) κ (cellAt x))),
    bigSep_congr (s := Finset.univ) (fun (c : Dev nD) _ => bigSep_sep' Finset.univ (fun k : Option Own => (atPos ER (cellAt (c, k)) 0 ∅ 0 : sProp 𝕄)) (fun k => reached ER (cellAt (c, k)) 0)),
    bigSep_sep', ← bigSep_univ_prod (fun x : Cells => (reached ER (cellAt x) 0 : sProp 𝕄)), ← bigSep_univ_prod (fun x : Tok => (tok x : sProp 𝕄)), toks_dealt]
  have hd (K : Cells → ℕ) (c : Dev nD) : iprop(invariants P K ∗ ((bigSep Finset.univ fun k : Option Own => atPos ER (cellAt (c, k)) 0 ∅ 0) ∗ pays c)) ⊢ dealt P c := by
    unfold dealt; iintro H; iexists K; iexact H
  iintro ⟨HI, ⟨Hat, #HR⟩, Htok⟩
  ihave HK := (BI.bigSep_exists_pi Finset.univ (fun (x : Cells) (κ : ℕ) => (cellInv ER (rd P) κ (cellAt x) : sProp 𝕄))) $$ HI
  icases HK with ⟨%K, #HI⟩
  iapply (all_with (hd K))
  rw [bigSep_sep']
  isplitr
  · unfold invariants; rw [bigSep_sep']
    isplitl; · iexact HI
    iexact HR
  isplitl [Hat]; · iexact Hat
  iexact Htok

/-- All devices' semaphores together: put under their invariants, and the rights dealt. -/
theorem glob : (bigSep Finset.univ fun c => iprop(Pipeline.ownSems0 (Ix := Unit) (Name := ℕ) (U := UU) (Lvl := ℕ) (Val := Elt F) (τ := τ) osem c ∗ unscopedSems0 c ∗ minted P c) : sProp 𝕄)
    ⊢ |={Set.univ}=> bigSep Finset.univ (dealt P) :=
  ((bigSep_mono fun c _ => alloc P c).trans (bigSep_fupd _ _)).trans (BI.fupd_mono (deal P))

end Ghost

/-! ## The payments which a device is due -/

theorem creds_debt (c : Dev nD) (f : Dev nD → Fin 15 → CellTallies nD τ sig Unit) (base : Dev nD → CellTallies nD τ sig Unit) : ∀ l : List (Fin 15),
    (Pipeline.launchCred (fun d => debt (f d) (base d) l) c : sProp 𝕄) ⊢ iprop(Pipeline.launchCred base c ∗ over l fun j => Pipeline.launchCred (fun d => f d j) c)
  | [] => by
      unfold over; iintro H
      isplitl [H]; · iexact H
      iempintro
  | j :: l => by
      rw [show (fun d => debt (f d) (base d) (j :: l)) = fun d => debt (f d) (base d) l + f d j from rfl, Pipeline.launchCred_add]
      unfold over
      iintro ⟨H, Hj⟩
      ihave H := (creds_debt c f base l) $$ H
      icases H with ⟨H, Hl⟩
      isplitl [H]; · iexact H
      isplitl [Hj] <;> iassumption

/-- Going `j` ahead, and back. -/
def ahead (j : Fin 15) : Dev nD ≃ Dev nD where
  toFun d := peer d j
  invFun e := peer e j.rev
  left_inv d := peer_back d j
  right_inv e := by have h := peer_back e j.rev; rwa [Fin.rev_rev] at h

theorem cred_cell (c : Dev nD) (b : Fin 4) (w : Fin 2) (j : Fin 15) :
    (Pipeline.launchCred (fun d => payCell d b w j) c : sProp 𝕄) = cred (tallyAt (cell c b w (peer c j.rev)) () N) :=
  Pipeline.launchCred_of_sum _ (fun e => tallyAt (cell e b w (peer e j.rev)) () N)
    (Fintype.sum_equiv (ahead j) _ _ fun d => by
      show tallyAt (cell (peer d j) b w d) () N = tallyAt (cell (peer d j) b w (peer (peer d j) j.rev)) () N
      rw [peer_back])
    (fun e g hg => by
      by_contra hne
      exact hg (tallyAt_ne_cell (fun h => hne (congrArg Prod.fst h)) _ _)) c
theorem cred_bar (c : Dev nD) (j : Fin 15) : (Pipeline.launchCred (fun d => payBar d j) c : sProp 𝕄) = cred (tallyAt (barCell c) () 1) :=
  Pipeline.launchCred_of_sum _ (fun e => tallyAt (barCell e) () 1) (Fintype.sum_equiv (ahead j) _ _ fun d => rfl)
    (fun e g hg => by
      by_contra hne
      exact hg (tallyAt_ne_cell (fun h => hne (congrArg Prod.fst h)) _ _)) c

theorem creds_cell (c : Dev nD) (b : Fin 4) (w : Fin 2) :
    (over js fun j => (Pipeline.launchCred (fun d => payCell d b w j) c : sProp 𝕄)) = peers c fun p => cred (tallyAt (cell c b w p) () N) := by
  unfold peers
  rw [over_js, over_js, bigSep_univ_equiv Fin.revPerm]
  refine bigSep_congr fun j _ => ?_
  rw [cred_cell]
  show (cred (tallyAt (cell c b w (peer c j.rev.rev)) () N) : sProp 𝕄) = _
  rw [Fin.rev_rev]

theorem ones (g : GSem nD τ sig) : ∀ l : List (Fin 15), (over l fun _ => (cred (tallyAt g () 1) : sProp 𝕄)) ⊢ cred (tallyAt g () l.length)
  | [] => by rw [show ([] : List (Fin 15)).length = 0 from rfl, tallyAt_zero, cred_zero]; exact BIBase.Entails.refl
  | j :: l => by
      rw [show (j :: l).length = l.length + 1 from rfl, ← tallyAt_add]
      refine BIBase.Entails.trans ?_ (cred_add _ _).2
      unfold over
      iintro ⟨H, Hl⟩
      isplitl [Hl]
      · iapply (ones g l); iexact Hl
      iexact H

theorem creds (c : Dev nD) :
    (Pipeline.launchCred owed5 c : sProp 𝕄) ⊢ iprop(cred (tallyAt (barCell c) () 15)
      ∗ (peers c (fun p => cred (tallyAt (cell c 1 0 p) () N)) ∗ peers c (fun p => cred (tallyAt (cell c 3 0 p) () N)))
      ∗ (peers c (fun p => cred (tallyAt (cell c 1 1 p) () N)) ∗ peers c (fun p => cred (tallyAt (cell c 3 1 p) () N)))) := by
  have h5 : (Pipeline.launchCred owed5 c : sProp 𝕄) ⊢ iprop(Pipeline.launchCred owed4 c ∗ over js fun j => Pipeline.launchCred (fun d => payBar d j) c) := creds_debt c payBar owed4 js
  have h4 : (Pipeline.launchCred owed4 c : sProp 𝕄) ⊢ iprop(Pipeline.launchCred owed3 c ∗ over js fun j => Pipeline.launchCred (fun d => payCell d 1 0 j) c) := creds_debt c (fun d => payCell d 1 0) owed3 js
  have h3 : (Pipeline.launchCred owed3 c : sProp 𝕄) ⊢ iprop(Pipeline.launchCred owed2 c ∗ over js fun j => Pipeline.launchCred (fun d => payCell d 1 1 j) c) := creds_debt c (fun d => payCell d 1 1) owed2 js
  have h2 : (Pipeline.launchCred owed2 c : sProp 𝕄) ⊢ iprop(Pipeline.launchCred owed1 c ∗ over js fun j => Pipeline.launchCred (fun d => payCell d 3 0 j) c) := creds_debt c (fun d => payCell d 3 0) owed1 js
  have h1 : (Pipeline.launchCred owed1 c : sProp 𝕄) ⊢ iprop(Pipeline.launchCred (fun _ => 0) c ∗ over js fun j => Pipeline.launchCred (fun d => payCell d 3 1 j) c) :=
    creds_debt c (fun d => payCell d 3 1) (fun _ => 0) js
  rw [creds_cell] at h1 h2 h3 h4
  rw [show (fun j => (Pipeline.launchCred (fun d => payBar d j) c : sProp 𝕄)) = fun _ => cred (tallyAt (barCell c) () 1) from funext fun j => cred_bar c j] at h5
  iintro H
  ihave H := h5 $$ H
  icases H with ⟨H, HB⟩
  ihave HB := (ones (F := F) (barCell c) js) $$ HB
  ihave H := h4 $$ H
  icases H with ⟨H, H10⟩
  ihave H := h3 $$ H
  icases H with ⟨H, H11⟩
  ihave H := h2 $$ H
  icases H with ⟨H, H30⟩
  ihave H := h1 $$ H
  icases H with ⟨-, H31⟩
  isplitl [HB]; · iexact HB
  isplitl [H10 H30]
  · isplitl [H10] <;> iassumption
  isplitl [H11] <;> iassumption

/-! ## What the body starts from -/

section Intro
variable (P : Dev nD → S512x512.Idx → Elt F .f32)

/-- Before the scratch buffers are there. -/
def start (c : Dev nD) : sProp 𝕄 := iprop(∃ K, records P K ∗ barGhost c ∗ waveGhost c 0 ∗ waveGhost c 1)

theorem start_of (c : Dev nD) : iprop(levAts L lv ∗ Pipeline.launchCred owed5 c ∗ dealt P c) ⊢ start P c := by
  unfold dealt start barGhost waveGhost
  rw [pays_eq, rights_bar, rights_send c 0 0 (.inl rfl), rights_send c 2 0 (.inr rfl), rights_send c 0 1 (.inl rfl), rights_send c 2 1 (.inr rfl),
    rights_recv c 1 0 (by decide), rights_recv c 3 0 (by decide), rights_recv c 1 1 (by decide), rights_recv c 3 1 (by decide),
    all_opt, all_waves]
  iintro ⟨Hlev, Hcr, ⟨%K, HI, ⟨HB, ⟨R0, R1⟩⟩, ⟨TB, T0, T1⟩⟩⟩
  ihave Hc := (creds (F := F) c) $$ Hcr
  icases Hc with ⟨CB, C0, C1⟩
  iexists K
  isplitl [HI Hlev]
  · unfold records
    isplitl [HI]; · unfold invariants; iexact HI
    iexact Hlev
  isplitl [HB TB CB]
  · isplitl [TB]; · iexact TB
    isplitl [CB]; · iexact CB
    iexact HB
  isplitl [R0 T0 C0]
  · isplitl [T0]; · iexact T0
    isplitl [C0]; · iexact C0
    unfold row; iexact R0
  isplitl [T1]; · iexact T1
  isplitl [C1]; · iexact C1
  unfold row; iexact R1

end Intro

end Cert.KernelIdeal.Start
-- ==== Proof.Run.lean ====
/-
# The run

The kernel runs on all devices from any memory, for any float values: it ends, the operands are as they were, every
device's result is what the body computes, and all semaphores are at zero.
-/
module

public import proofs.«01_k».proof.Proof.Start
public import proofs.«01_k».proof.Proof.Gen.KernelIdeal.Points
public import Idealize.ShloMosaic.Lib.Pipeline.Launch
public import Idealize.ShloMosaic.Lib.Pipeline.CollectiveSegs
public import Idealize.ShloMosaic.Lib.Pipeline.Kit
public import Idealize.ShloMosaic.Lib.Tactic

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Loops Cert.KernelIdeal.Pieces Cert.KernelIdeal.Protocol Cert.KernelIdeal.Steps
open Cert.KernelIdeal.Waves Cert.KernelIdeal.Body Cert.KernelIdeal.Start
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, all counters at zero. -/
def s₀ : MemSt nD τ sig (Elt F) := ⟨m, fun _ => 0, ρ⟩

/-- Device `c`'s operands as staged, their product, and what the protocol makes of all devices' products. -/
def stgA (c : Dev nD) : S512x256.Idx → Elt F .f32 := (win0_0.blk (0 : Fin 1)).view.read (Elt F) ((s₀ m ρ).mem ((c : Thread nD τ).loc main_arg0))
def stgB (c : Dev nD) : S256x512.Idx → Elt F .f32 := (win0_1.blk (0 : Fin 1)).view.read (Elt F) ((s₀ m ρ).mem ((c : Thread nD τ).loc main_arg1))
def prod (c : Dev nD) : S512x512.Idx → Elt F .f32 := k0_pay1 (stgA m ρ c) (stgB m ρ c)
def outAt (c : Dev nD) : S512x512.Idx → Elt F .f32 := whole (prod m ρ) c

def buffers (c : Dev nD) : sProp 𝕄 := iprop(scratch c sendM ∗ scratch c partM ∗ scratch c doneM)
def before (c : Dev nD) : sProp 𝕄 := iprop(start (prod m ρ) c ∗ buffers c)
def after (c : Dev nD) : sProp 𝕄 := iprop((semVal (barCell c) 0 ∗ zeros c 0 ∗ zeros c 1) ∗ buffers c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stgA m ρ c
    | ⟨1, _⟩ => stgB m ρ c
    | ⟨2, _⟩ => outAt m ρ c
  Φ t := match t with
    | ⟨0, _⟩ => before m ρ c
    | ⟨_ + 1, _⟩ => after c
  q _ := fullShare
  owed t := match t with
    | ⟨0, _⟩ => owed5 c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

/-! ## The body -/

abbrev point : Fin cfg0.N := t0_0

set_option maxRecDepth 4000 in
def bodyPre (c : Dev nD) : sProp 𝕄 :=
  iprop(before m ρ c ∗ (dats m ρ 0 c).owesAt () point.castSucc
    ∗ (∃ d, owns (c : Thread nD τ) (Memref.whole cc0_stg0_0) fullShare ((dats m ρ 0 c).before (0 : Fin 3) point d))
    ∗ (∃ d, owns (c : Thread nD τ) (Memref.whole cc0_stg1_0) fullShare ((dats m ρ 0 c).before (1 : Fin 3) point d))
    ∗ (∃ d, owns (c : Thread nD τ) outM fullShare ((dats m ρ 0 c).before (2 : Fin 3) point d)))
set_option maxRecDepth 4000 in
def bodyPost (c : Dev nD) : sProp 𝕄 :=
  iprop(after c ∗ (dats m ρ 0 c).owesAt () point.succ
    ∗ owns (c : Thread nD τ) (Memref.whole cc0_stg0_0) fullShare (stgA m ρ c) ∗ owns (c : Thread nD τ) (Memref.whole cc0_stg1_0) fullShare (stgB m ρ c)
    ∗ owns (c : Thread nD τ) outM fullShare (outAt m ρ c))

theorem before_0 (c : Dev nD) (d) : (dats m ρ 0 c).before (0 : Fin 3) point d = stgA m ρ c := by unfold Dat.before; rw [if_pos (fetch0_0 point)]; rfl
theorem before_1 (c : Dev nD) (d) : (dats m ρ 0 c).before (1 : Fin 3) point d = stgB m ρ c := by unfold Dat.before; rw [if_pos (fetch0_1 point)]; rfl

set_option maxRecDepth 20000 in
theorem body_run (c : Dev nD) : bodyPre m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6) (fun _ => bodyPost m ρ c) := by
  rw [body_eq, wp_deviceId]
  unfold bodyPre before start buffers Dat.owesAt Pipeline.owesWithin
  iintro ⟨⟨⟨%K, #HZ, HG⟩, HS⟩, ⟨%W, -, HO⟩, ⟨%d0, Hx⟩, ⟨%d1, Hy⟩, ⟨%d2, Ho⟩⟩
  rw [before_0, before_1]
  iapply (code_run (prod m ρ) K c (stgA m ρ c) (stgB m ρ c) _ rfl (Memref.isWhole_whole _) (Memref.isWhole_whole _) (Memref.isWhole_whole _) fun _ => bodyPost m ρ c)
  isplitr; · iexact HZ
  isplitl [HG]; · iexact HG
  isplitl [HS]; · iexact HS
  isplitl [HO]; · unfold owing; iexists W; iexact HO
  unfold staged
  isplitl [Hx Hy Ho]
  · isplitl [Hx]; · iexact Hx
    isplitl [Hy]; · iexact Hy
    iexact Ho
  unfold bodyPost after buffers Dat.owesAt Pipeline.owesWithin owing
  iintro ⟨HA, ⟨%W, HO⟩, Hs⟩
  isplitl [HA]; · iexact HA
  isplitl [HO]
  · iexists W
    isplitr; · ipureintro; exact fun _ _ => Or.inl trivial
    iexact HO
  iexact Hs

set_option maxRecDepth 20000 in
theorem body_obligation (c : Dev nD) : BodyObligation (dats (F := F) m ρ 0 c) (defs₀ (F := F)) 𝒱₀ () Set.univ := fun t => by
  rw [fin_N0 t, bigSep_W, bigSep_W]
  exact body_run m ρ c

/-! ## The launch -/

def u₀ : UU := (initOf (Pipeline.cells cfgs cellOf_inj) (Pipeline.launchToks cfgs cellOf_inj), initOf allCells allToks)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed5 c ∗ prngReg c (ρ c) ∗ dealt (prod m ρ) c)
      ⊢ |={Set.univ}=> iprop(start (prod m ρ) c ∗ emp) := by
  iintro ⟨-, Hlev, Hcr, -, HG⟩
  imodintro
  isplitl
  · iapply (start_of (prod m ρ) c)
    isplitl [Hlev]; · iexact Hlev
    isplitl [Hcr] <;> iassumption
  iempintro

theorem before_intro (c : Dev nD) :
    iprop(start (prod m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before buffers scratch
  iintro ⟨Hs, -, HR⟩
  isplitl [Hs]; · iexact Hs
  iexact HR

theorem after_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after c from rfl, scopedRest0_eq, ownSems0_eq, unscopedSems0_eq]
  unfold after buffers scratch
  iintro ⟨⟨HB, HZ⟩, HR⟩
  isplitl [HB]; · iexact HB
  isplitl [HZ]; · iexact HZ
  iexact HR

theorem waits (c : Dev nD) : (levAts L lv : sProp 𝕄) ⊢ Pipeline.cellsWaits cfgs (dats m ρ) () 0 c :=
  Pipeline.cellsWaits_intro cfgs (dats m ρ) () 0 c fun w s t =>
    mayWait c _ 0 _ (by fin_cases w <;> fin_cases s <;> rfl) (by
      rcases t with ⟨_ | _, ht⟩
      · exact above5 c
      · exact above_zero 0)

/-! ## The run -/

def finalA (c : Dev nD) (w : Fin cfg0.W) : Buf (Elt F) ((cfg0.win w).arr.view.loc (c : Thread nD τ)) := (dats m ρ 0 c).arrAt w cfg0.N

set_option maxRecDepth 40000 in
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed5) (howed₀ := fun _ => rfl) (howedN := fun _ => rfl)
    (L := L) (lv := lv) (hL := L_of_ne) (hwaits := waits m ρ)
    (G := minted (prod m ρ)) (G' := dealt (prod m ρ)) (u₀ := u₀)
    (hu₀ := by
      unfold u₀
      iintro Hu
      ihave H := (ownU_pair _ _) $$ Hu
      icases H with ⟨HP, HX⟩
      imod (fund (prod m ρ)) $$ HX with HG
      imodintro
      isplitl [HP] <;> iassumption)
    (hglob := glob (prod m ρ))
    (hA := fun _ _ => rfl) (hpf := fun _ k => k.elim0)
    (X := start (prod m ρ)) (Y := fun c => unscopedSems0 c) (Z := fun _ => iprop(emp))
    (hX := start_intro m ρ) (hin := before_intro m ρ) (hout := after_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands are as they were, -/
theorem finalA_arg0 (c : Dev nD) : finalA m ρ c (0 : Fin 3) = m ((c : Thread nD τ).loc main_arg0) := (dats (F := F) m ρ 0 c).arrAt_in (0 : Fin 3) rfl _
theorem finalA_arg1 (c : Dev nD) : finalA m ρ c (1 : Fin 3) = m ((c : Thread nD τ).loc main_arg1) := (dats (F := F) m ρ 0 c).arrAt_in (1 : Fin 3) rfl _

end Cert.KernelIdeal.Run
-- ==== Proof.Result.lean ====
/-
# The result array

The one block of the result's window is the whole array, so it ends holding what the body leaves staged
(`final_result`). The staged operands are the operand arrays.
-/
module

public import proofs.«01_k».proof.Proof.Run
public import Idealize.ShloMosaic.Lib.Pipeline.Value

@[expose] public section

noncomputable section

namespace Cert.KernelIdeal.Run

open Idealize.ShloMosaic Idealize.ShloMosaic.TcCoe Idealize.SL.Sem
open Cert.KernelIdeal Cert.KernelIdeal.Gen Cert.KernelIdeal.Loops Cert.KernelIdeal.Protocol Cert.KernelIdeal.Body

variable {F : FTy → Type} [FloatOps F]
variable (m : (ℓ : Loc nD τ sig) → Buf (Elt F) ℓ) (ρ : Dev nD → PrngReg)

/-- Reading through the one block of a whole array reads the array. -/
theorem offset_zero {n : ℕ} (d : Fin n → ℕ) : (fun a => 0 * d a) = fun _ => 0 := funext fun a => Nat.zero_mul _

theorem stgA_eq (c : Dev nD) : stgA m ρ c = m ((c : Thread nD τ).loc main_arg0) :=
  Memref.read_access_unit_zero (Elt F) main_arg0 (offset_zero _) (fun a => by rw [Nat.zero_mul, Nat.zero_add]) _
theorem stgB_eq (c : Dev nD) : stgB m ρ c = m ((c : Thread nD τ).loc main_arg1) :=
  Memref.read_access_unit_zero (Elt F) main_arg1 (offset_zero _) (fun a => by rw [Nat.zero_mul, Nat.zero_add]) _

theorem final_result (c : Dev nD) : finalA m ρ c (2 : Fin 3) = outAt m ρ c :=
  (dats (F := F) m ρ 0 c).arrAt_eq_of_cover (2 : Fin 3) (outAt m ρ c)
    (fun t _ => by
      rw [fin_N0 t]
      show (cfg0.win (2 : Fin 3)).cut (grid0.coords t0_0) (outAt m ρ c) = _
      exact (Memref.read_access_unit_zero (Elt F) main_v1 (offset_zero _) (fun a => by rw [Nat.zero_mul, Nat.zero_add]) (outAt m ρ c)).symm)
    fun i => ⟨t0_0, flush0_2 t0_0, by
      show i ∈ ((View.whole main_v1).slice (win0_2.rect t0_0)).set
      rw [View.set_slice_whole, Rect.mem_set_unit]
      intro a
      show 0 * S512x512.size a ≤ (i a).val ∧ (i a).val < 0 * S512x512.size a + S512x512.size a
      rw [Nat.zero_mul, Nat.zero_add]
      exact ⟨Nat.zero_le _, (i a).isLt⟩⟩

/-- The run, read at the operands and the result. -/
theorem run_value : θ_run defs (onTc (τ := τ) (main (F := F))) (s₀ m ρ) (fun r => (∀ c : Dev nD,
      r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (final_result m ρ c), (h.1 c (0 : Fin 3)).trans (finalA_arg0 m ρ c),
    (h.1 c (1 : Fin 3)).trans (finalA_arg1 m ρ c)⟩, h.2⟩) (run_main m ρ)

end Cert.KernelIdeal.Run
-- ==== Proof.Value.lean ====
/-
# The result over the extended reals

Over the extended reals a change of format changes nothing, and addition may be taken in any order. So the chunk that a
device finishes is the activation of the sum of all devices' products, what its peers get of it is the same, and every
device ends with the activation of the sum of the products (`whole_value`). A sum over 16 devices of sums over their 256
inner positions is one sum over the 4096 positions (`sum_blocks`).
-/
module

public import proofs.«01_k».proof.Proof.Body
public import Idealize.ShloMosaic.Lib.MatmulPlain
public import Idealize.ShloMosaic.Lib.ValueIdx
public import Idealize.ShloMosaic.Lib.Pipeline.Value

@[expose] public section

noncomputable section

namespace Cert.KernelIdeal.Value

open Idealize.ShloMosaic Idealize.ShloMosaic.TcCoe Idealize.ShloMosaic.ValueIdx
open Cert.KernelIdeal Cert.KernelIdeal.Gen Cert.KernelIdeal.Loops Cert.KernelIdeal.Pieces Cert.KernelIdeal.Protocol Cert.KernelIdeal.Body

/-! ## Sums -/

/-- A device itself, and its peers: all devices. -/
def meAndPeers (c : Dev nD) : Option (Fin 15) → Dev nD := fun k => k.elim c (peer c)

theorem meAndPeers_bijective (c : Dev nD) : Function.Bijective (meAndPeers c) := by
  constructor
  · rintro (_ | j) (_ | j') h
    · rfl
    · exact absurd h.symm (peer_ne c j')
    · exact absurd h (peer_ne c j)
    · rw [peer_injective c j j' h]
  · intro d
    by_cases h : d = c
    · exact ⟨none, h.symm⟩
    · obtain ⟨j, hj⟩ := peer_exists c d h
      exact ⟨some j, hj⟩

theorem sum_devices (c : Dev nD) (f : Dev nD → EReal) : ∑ d, f d = f c + (js.map fun j => f (peer c j)).sum := by
  rw [← (meAndPeers_bijective c).sum_comp f, Fintype.sum_option, Fin.sum_univ_def]
  rfl

/-- Adding one chunk after another, read at an index. -/
theorem foldl_apply (g : Fin 15 → FVec Ideal S16x512 .f32) (x : S16x512.Idx) (l : List (Fin 15)) (a : FVec Ideal S16x512 .f32) :
    l.foldl (fun acc j => addf acc (g j)) a x = a x + (l.map fun j => g j x).sum := by
  induction l generalizing a with
  | nil => simp
  | cons j l ih =>
    rw [List.foldl_cons, ih, List.map_cons, List.sum_cons, addf_apply, add_assoc]

/-- Block `d`'s inner position `k` is position `256 * d + k`. -/
theorem sum_blocks (f : Fin 4096 → EReal) :
    ∑ d : Fin 16, ∑ k : Fin 256, f ⟨d.val * 256 + k.val, by omega⟩ = ∑ k, f k := by
  rw [← Fintype.sum_prod_type' fun (d : Fin 16) (k : Fin 256) => f ⟨d.val * 256 + k.val, by omega⟩]
  refine Fintype.sum_equiv (finProdFinEquiv (m := 16) (n := 256)) _ _ fun x => congrArg f (Fin.ext ?_)
  show x.1.val * 256 + x.2.val = x.2.val + 256 * x.1.val
  omega

/-! ## The chunks -/

theorem wide_castPay (v : FVec Ideal S16x512 .f32) : wide (castPay v) = v := by
  have h : wide (castPay v) = shapeCast S16x512 (shapeCast S1x1x16x512 (shapeCast S16x512 v shapeCasts_S16x512_S16x512) shapeCasts_S16x512_S1x1x16x512) shapeCasts_S1x1x16x512_S16x512 := rfl
  rw [h, shapeCast_shapeCast, shapeCast_self]

/-- The activation at one value. -/
def activation (z : EReal) : EReal := FloatOps.divf (F := Ideal) (φ := .f32) z (FloatOps.addf (F := Ideal) (φ := .f32) (FloatOps.ofBits (F := Ideal) .f32 0x3F800000#32) (FloatOps.exp (F := Ideal) (φ := .f32) (-z)))

theorem act_apply (z : FVec Ideal S16x512 .f32) (x : S16x512.Idx) : act z x = activation (z x) := by
  have h : act z x = FloatOps.divf (F := Ideal) (φ := .f32) (z x) (FloatOps.addf (F := Ideal) (φ := .f32) (FloatOps.ofBits (F := Ideal) .f32 0x3F800000#32)
      (FloatOps.exp (F := Ideal) (φ := .f32) ((Ideal.ofBits .f32 0x00000000#32 : EReal) - z x))) := rfl
  rw [h, Ideal.ofBits_zero_f32, zero_sub]
  rfl

variable (P : Dev nD → S512x512.Idx → Elt Ideal .f32)

theorem red_apply (c : Dev nD) (w : Fin 2) (x : S16x512.Idx) : red P c w x = ∑ d, chunkOf (P d) w c x := by
  unfold red part
  simp only [wide_castPay]
  rw [foldl_apply, shapeCast_self, sum_devices c]

theorem outChunk_eq (c : Dev nD) (w : Fin 2) (e : Dev nD) : outChunk P c w e = res P e w := by
  unfold outChunk
  split
  · next h => rw [h]
  · have h : wide (resb P e w) = shapeCast S16x512 (shapeCast S1x1x16x512 (res P e w) shapeCasts_S16x512_S1x1x16x512) shapeCasts_S1x1x16x512_S16x512 := rfl
    rw [h, shapeCast_shapeCast]

theorem emb_inChunk (i : S512x512.Idx) : (rowsR (waveOf i, devOf i)).emb (inChunk i) = i := by
  funext a
  refine Fin.ext ?_
  match a with
  | ⟨0, _⟩ =>
    refine (emb_row (waveOf i) (devOf i) (inChunk i)).trans ?_
    show 32 * ((i 0).val / 32) + 16 * ((i 0).val / 16 % 2) + (i 0).val % 16 = (i 0).val
    omega
  | ⟨1, _⟩ => exact emb_column (waveOf i) (devOf i) (inChunk i)

/-- What every device ends with, at an index. -/
theorem whole_value (c : Dev nD) (i : S512x512.Idx) : whole P c i = activation (∑ d, P d i) := by
  unfold whole
  rw [outChunk_eq]
  unfold res
  rw [act_apply, red_apply]
  have h (d : Dev nD) : chunkOf (P d) (waveOf i) (devOf i) (inChunk i) = P d i := congrArg (P d) (emb_inChunk i)
  simp only [h]

/-! ## The products -/

/-- The product of a device's operands, at an index. -/
theorem product_value (x : FVec Ideal S512x256 .f32) (y : FVec Ideal S256x512 .f32) (r c : Fin 512) :
    k0_pay1 (F := Ideal) x y (ix2 r c) = ∑ k : Fin 256, x (ix2 r k) * y (ix2 k c) := by
  unfold k0_pay1
  simp only [shapeCast_self]
  rw [show dot_S512x256_S256x512_S512x512_1_0_0_1_n_n = DotDims.plain 512 256 512 from rfl]
  refine (Ideal.matmul_plain_apply none x y _ r c).trans ?_
  rw [show constant (F := Ideal) S512x512 .f32 0x00000000#32 (ix2 r c) = 0 from Ideal.ofBits_zero_f32, zero_add]

/-- The devices' products of the blocks of two arrays add up to the product of the arrays. -/
theorem products_value (A : (⟨2, ![512, 4096]⟩ : Shape).Idx → EReal) (B : (⟨2, ![4096, 512]⟩ : Shape).Idx → EReal) (r c : Fin 512) :
    ∑ d : Dev nD, k0_pay1 (F := Ideal) (Layout.block ⟨2, ![512, 256]⟩ ⟨2, ![512, 4096]⟩ 1 16 d A) (Layout.block ⟨2, ![256, 512]⟩ ⟨2, ![4096, 512]⟩ 0 16 d B) (ix2 r c)
      = ∑ k : Fin 4096, A (ix2 r k) * B (ix2 k c) := by
  simp only [product_value]
  refine Eq.trans ?_ (sum_blocks fun k => A (ix2 r k) * B (ix2 k c))
  refine Finset.sum_congr rfl fun d _ => Finset.sum_congr rfl fun k _ => ?_
  refine congrArg₂ (· * ·) (congrArg A ?_) (congrArg B ?_)
  · funext a; match a with | ⟨0, _⟩ => rfl | ⟨1, _⟩ => rfl
  · funext a; match a with | ⟨0, _⟩ => rfl | ⟨1, _⟩ => rfl

end Cert.KernelIdeal.Value
-- ==== Proof.lean ====
/-
# The claims

The kernel's run (Result.lean) at the machine's values and over the extended reals gives its two frames; the reference's
run gives its own. Over the extended reals the kernel's result on every device is the activation of the sum of all
devices' products (Value.lean), which is what the reference computes of the whole arrays.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import proofs.«01_k».proof.Proof.Value
public import Idealize.ShloMosaic.Lib.StackMember
public import Idealize.ShloMosaic.Lib.Quiescent
public import Idealize.ShloMosaic.Adequacy
public import Idealize.ShloMosaic.Init

@[expose] public section

noncomputable section

namespace Cert.Proof

open Idealize.ShloMosaic Idealize.ShloMosaic.ValueIdx Idealize.SL.Sem Cert.KernelIdeal Cert.KernelIdeal.Gen Cert.KernelIdeal.Run Cert.KernelIdeal.Value

/-! ## The frames -/

set_option maxRecDepth 40000 in
/-- The kernel and its idealization run the same body. -/
theorem bodies_eq : Cert.Kernel.defs₀ (F := Bits) = Cert.KernelIdeal.defs₀ (F := Bits) := by
  refine congrArg Defs.onTc (funext fun l => funext fun x => ?_)
  match l, x with
  | ⟨0, _⟩, (t, s) => rfl

theorem defs_eq : Cert.Kernel.defs (F := Bits) = Cert.KernelIdeal.defs (F := Bits) :=
  congrArg (Pipeline.defs (Cert.KernelIdeal.pcfgs (F := Bits))) bodies_eq

theorem frame_kernel : Cert.quiescent_Kernel := fun m ρ _ => by
  rw [defs_eq]
  exact (θ_run Cert.KernelIdeal.defs _ _).mono (fun _ h => ⟨fun c => (h.1 c).2, h.2⟩) (run_value (F := Bits) m ρ)

theorem frame_kernelIdeal : Cert.quiescent_KernelIdeal := fun m ρ _ =>
  (θ_run Cert.KernelIdeal.defs _ _).mono (fun _ h => ⟨fun c => (h.1 c).2, h.2⟩) (run_value (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The value -/

/-- What the reference computes of its two arrays. -/
abbrev reference (A : (⟨2, ![512, 4096]⟩ : Shape).Idx → EReal) (B : (⟨2, ![4096, 512]⟩ : Shape).Idx → EReal) : (⟨2, ![512, 512]⟩ : Shape).Idx → EReal :=
  fun i => activation (∑ k : Fin 4096, A (ix2 (i 0) k) * B (ix2 k (i 1)))

/-- The kernel's result: `reference` of the arrays of which the devices hold blocks. -/
theorem kernel_value (m : (ℓ : Loc nD τ sig) → Buf (Elt Ideal) ℓ) (ρ : Dev nD → PrngReg)
    (A : (⟨2, ![512, 4096]⟩ : Shape).Idx → EReal) (B : (⟨2, ![4096, 512]⟩ : Shape).Idx → EReal)
    (h : ∀ c : Dev nD, m ((c.tc : Thread nD τ).loc main_arg0) = Layout.block ⟨2, ![512, 256]⟩ ⟨2, ![512, 4096]⟩ 1 16 c A
      ∧ m ((c.tc : Thread nD τ).loc main_arg1) = Layout.block ⟨2, ![256, 512]⟩ ⟨2, ![4096, 512]⟩ 0 16 c B) (c : Dev nD) :
    outAt m ρ c = reference A B := by
  have hP : prod m ρ = fun d => k0_pay1 (F := Ideal) (Layout.block ⟨2, ![512, 256]⟩ ⟨2, ![512, 4096]⟩ 1 16 d A) (Layout.block ⟨2, ![256, 512]⟩ ⟨2, ![4096, 512]⟩ 0 16 d B) :=
    funext fun d => congrArg₂ (k0_pay1 (F := Ideal)) ((stgA_eq m ρ d).trans (h d).1) ((stgB_eq m ρ d).trans (h d).2)
  unfold outAt
  rw [hP]
  funext i
  rw [whole_value, eq_ix2 i]
  exact congrArg activation (products_value A B (i 0) (i 1))

/-- The reference's result is `reference` of its arrays. -/
theorem reference_value (A : FVec Ideal Cert.ReferenceIdeal.S512x4096 .f32) (B : FVec Ideal Cert.ReferenceIdeal.S4096x512 .f32)
    (z : FVec Ideal Cert.ReferenceIdeal.S512x512 .f32) (hz : z = Host.dotGeneral Cert.ReferenceIdeal.dot_S512x4096_S4096x512_S512x512_1_0_0_1_n_n none A B) :
    Host.divf z (addf (broadcastInDim Cert.ReferenceIdeal.S512x512 ![] Cert.ReferenceIdeal.Gen.bcast_S_S512x512 (constant Cert.ReferenceIdeal.S_ .f32 0x3F800000#32)) (Host.exp (Host.negf z)))
      = reference A B := by
  funext i
  have hi : z i = ∑ k : Fin 4096, A (ix2 (i 0) k) * B (ix2 k (i 1)) := by
    rw [hz, eq_ix2 i]
    exact StackMember.dotGeneral_plain_apply none A B (i 0) (i 1)
  show activation (z i) = _
  rw [hi]

theorem algebraic : Cert.algebraic_KernelIdeal_ReferenceIdeal := fun m ρ m' ρ' _ h =>
  ⟨reference (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ hr c => ⟨(hr.1 c).1.trans (kernel_value m ρ _ _ h c), (hr.1 c).2⟩) (run_value (F := Ideal) m ρ),
    (θ_run Cert.ReferenceIdeal.defs _ _).mono (fun _ hr => ⟨(hr 0).1.trans (reference_value _ _ _ rfl), (hr 0).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
